-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![64, 256, 512]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16, 512]⟩ ⟨2, ![512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x64 : Shape := ⟨2, ![256, 64]⟩
abbrev S512x1 : Shape := ⟨2, ![512, 1]⟩
abbrev S2x256x512 : Shape := ⟨3, ![2, 256, 512]⟩
abbrev S256x512 : Shape := ⟨2, ![256, 512]⟩
abbrev S16x512 : Shape := ⟨2, ![16, 512]⟩
abbrev S512x512 : Shape := ⟨2, ![512, 512]⟩
abbrev S31 : Shape := ⟨1, ![31]⟩
abbrev S_ : Shape := ⟨0, ![]⟩
abbrev S512x64 : Shape := ⟨2, ![512, 64]⟩
abbrev S512 : Shape := ⟨1, ![512]⟩
abbrev S1x256x512 : Shape := ⟨3, ![1, 256, 512]⟩
abbrev S1 : Shape := ⟨1, ![1]⟩
abbrev S16x256 : Shape := ⟨2, ![16, 256]⟩

abbrev nBuf : Space → Nat
  | .hbm => 6
  | .vmem => 8
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x1, .i32⟩
  | .hbm, ⟨3, _⟩ => ⟨S2x256x512, .bf16⟩
  | .hbm, ⟨4, _⟩ => ⟨S256x512, .bf16⟩
  | .hbm, ⟨5, _⟩ => ⟨S16x512, .f32⟩
  | .local _ .vmem, ⟨0, _⟩ => ⟨S512x256, .bf16⟩
  | .local _ .vmem, ⟨1, _⟩ => ⟨S256x64, .bf16⟩
  | .local _ .vmem, ⟨2, _⟩ => ⟨S512x1, .i32⟩
  | .local _ .vmem, ⟨3, _⟩ => ⟨S2x256x512, .bf16⟩
  | .local _ .vmem, ⟨4, _⟩ => ⟨S256x512, .bf16⟩
  | .local _ .vmem, ⟨5, _⟩ => ⟨S16x512, .f32⟩
  | .local _ .vmem, ⟨6, _⟩ => ⟨S512x512, .bf16⟩
  | .local _ .vmem, ⟨7, _⟩ => ⟨S512x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_155 : BitVec 32 := 16#32
  let v189 : BitVec 32 := Scalar.muli v2 c16_i32_155
  let c0_i32_160 : BitVec 32 := 0#32
  ![v189.toNat, 0]
def k0_off2 (d0 : Dev nD) (c1_i32_152 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v186 : BitVec 32 := Scalar.addi v2 c1_i32_152
  let c32_i32_153 : BitVec 32 := 32#32
  let v187 : BitVec 32 := Scalar.remsi v186 c32_i32_153
  let c16_i32_154 : BitVec 32 := 16#32
  let v188 : BitVec 32 := Scalar.muli v187 c16_i32_154
  let c0_i32_161 : BitVec 32 := 0#32
  ![v188.toNat, 0]
def k0_dev32 (d0 : Dev nD) : Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_152 : BitVec 32 := 1#32
  let v186 : BitVec 32 := Scalar.addi v2 c1_i32_152
  let c32_i32_153 : BitVec 32 := 32#32
  let v187 : BitVec 32 := Scalar.remsi v186 c32_i32_153
  let c1_i32_158 : BitVec 32 := 1#32
  let v190 : BitVec 32 := Scalar.muli v187 c1_i32_158
  let v191 : BitVec 32 := Scalar.addi c0_i32_159 v190
  v191.toNat
def k0_dev33 (d0 : Dev nD) : Nat :=
  let c0_i32_169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_162 : BitVec 32 := 2#32
  let v198 : BitVec 32 := Scalar.addi v2 c2_i32_162
  let c32_i32_163 : BitVec 32 := 32#32
  let v199 : BitVec 32 := Scalar.remsi v198 c32_i32_163
  let c1_i32_168 : BitVec 32 := 1#32
  let v202 : BitVec 32 := Scalar.muli v199 c1_i32_168
  let v203 : BitVec 32 := Scalar.addi c0_i32_169 v202
  v203.toNat
def k0_dev34 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_172 : BitVec 32 := 3#32
  let v210 : BitVec 32 := Scalar.addi v2 c3_i32_172
  let c32_i32_173 : BitVec 32 := 32#32
  let v211 : BitVec 32 := Scalar.remsi v210 c32_i32_173
  let c1_i32_178 : BitVec 32 := 1#32
  let v214 : BitVec 32 := Scalar.muli v211 c1_i32_178
  let v215 : BitVec 32 := Scalar.addi c0_i32_179 v214
  v215.toNat
def k0_dev35 (d0 : Dev nD) : Nat :=
  let c0_i32_189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_182 : BitVec 32 := 4#32
  let v222 : BitVec 32 := Scalar.addi v2 c4_i32_182
  let c32_i32_183 : BitVec 32 := 32#32
  let v223 : BitVec 32 := Scalar.remsi v222 c32_i32_183
  let c1_i32_188 : BitVec 32 := 1#32
  let v226 : BitVec 32 := Scalar.muli v223 c1_i32_188
  let v227 : BitVec 32 := Scalar.addi c0_i32_189 v226
  v227.toNat
def k0_dev36 (d0 : Dev nD) : Nat :=
  let c0_i32_199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_192 : BitVec 32 := 5#32
  let v234 : BitVec 32 := Scalar.addi v2 c5_i32_192
  let c32_i32_193 : BitVec 32 := 32#32
  let v235 : BitVec 32 := Scalar.remsi v234 c32_i32_193
  let c1_i32_198 : BitVec 32 := 1#32
  let v238 : BitVec 32 := Scalar.muli v235 c1_i32_198
  let v239 : BitVec 32 := Scalar.addi c0_i32_199 v238
  v239.toNat
def k0_dev37 (d0 : Dev nD) : Nat :=
  let c0_i32_209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_202 : BitVec 32 := 6#32
  let v246 : BitVec 32 := Scalar.addi v2 c6_i32_202
  let c32_i32_203 : BitVec 32 := 32#32
  let v247 : BitVec 32 := Scalar.remsi v246 c32_i32_203
  let c1_i32_208 : BitVec 32 := 1#32
  let v250 : BitVec 32 := Scalar.muli v247 c1_i32_208
  let v251 : BitVec 32 := Scalar.addi c0_i32_209 v250
  v251.toNat
def k0_dev38 (d0 : Dev nD) : Nat :=
  let c0_i32_219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_212 : BitVec 32 := 7#32
  let v258 : BitVec 32 := Scalar.addi v2 c7_i32_212
  let c32_i32_213 : BitVec 32 := 32#32
  let v259 : BitVec 32 := Scalar.remsi v258 c32_i32_213
  let c1_i32_218 : BitVec 32 := 1#32
  let v262 : BitVec 32 := Scalar.muli v259 c1_i32_218
  let v263 : BitVec 32 := Scalar.addi c0_i32_219 v262
  v263.toNat
def k0_dev39 (d0 : Dev nD) : Nat :=
  let c0_i32_229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_222 : BitVec 32 := 8#32
  let v270 : BitVec 32 := Scalar.addi v2 c8_i32_222
  let c32_i32_223 : BitVec 32 := 32#32
  let v271 : BitVec 32 := Scalar.remsi v270 c32_i32_223
  let c1_i32_228 : BitVec 32 := 1#32
  let v274 : BitVec 32 := Scalar.muli v271 c1_i32_228
  let v275 : BitVec 32 := Scalar.addi c0_i32_229 v274
  v275.toNat
def k0_dev40 (d0 : Dev nD) : Nat :=
  let c0_i32_239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_232 : BitVec 32 := 9#32
  let v282 : BitVec 32 := Scalar.addi v2 c9_i32_232
  let c32_i32_233 : BitVec 32 := 32#32
  let v283 : BitVec 32 := Scalar.remsi v282 c32_i32_233
  let c1_i32_238 : BitVec 32 := 1#32
  let v286 : BitVec 32 := Scalar.muli v283 c1_i32_238
  let v287 : BitVec 32 := Scalar.addi c0_i32_239 v286
  v287.toNat
def k0_dev41 (d0 : Dev nD) : Nat :=
  let c0_i32_249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_242 : BitVec 32 := 10#32
  let v294 : BitVec 32 := Scalar.addi v2 c10_i32_242
  let c32_i32_243 : BitVec 32 := 32#32
  let v295 : BitVec 32 := Scalar.remsi v294 c32_i32_243
  let c1_i32_248 : BitVec 32 := 1#32
  let v298 : BitVec 32 := Scalar.muli v295 c1_i32_248
  let v299 : BitVec 32 := Scalar.addi c0_i32_249 v298
  v299.toNat
def k0_dev42 (d0 : Dev nD) : Nat :=
  let c0_i32_259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_252 : BitVec 32 := 11#32
  let v306 : BitVec 32 := Scalar.addi v2 c11_i32_252
  let c32_i32_253 : BitVec 32 := 32#32
  let v307 : BitVec 32 := Scalar.remsi v306 c32_i32_253
  let c1_i32_258 : BitVec 32 := 1#32
  let v310 : BitVec 32 := Scalar.muli v307 c1_i32_258
  let v311 : BitVec 32 := Scalar.addi c0_i32_259 v310
  v311.toNat
def k0_dev43 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_262 : BitVec 32 := 12#32
  let v318 : BitVec 32 := Scalar.addi v2 c12_i32_262
  let c32_i32_263 : BitVec 32 := 32#32
  let v319 : BitVec 32 := Scalar.remsi v318 c32_i32_263
  let c1_i32_268 : BitVec 32 := 1#32
  let v322 : BitVec 32 := Scalar.muli v319 c1_i32_268
  let v323 : BitVec 32 := Scalar.addi c0_i32_269 v322
  v323.toNat
def k0_dev44 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_272 : BitVec 32 := 13#32
  let v330 : BitVec 32 := Scalar.addi v2 c13_i32_272
  let c32_i32_273 : BitVec 32 := 32#32
  let v331 : BitVec 32 := Scalar.remsi v330 c32_i32_273
  let c1_i32_278 : BitVec 32 := 1#32
  let v334 : BitVec 32 := Scalar.muli v331 c1_i32_278
  let v335 : BitVec 32 := Scalar.addi c0_i32_279 v334
  v335.toNat
def k0_dev45 (d0 : Dev nD) : Nat :=
  let c0_i32_289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_282 : BitVec 32 := 14#32
  let v342 : BitVec 32 := Scalar.addi v2 c14_i32_282
  let c32_i32_283 : BitVec 32 := 32#32
  let v343 : BitVec 32 := Scalar.remsi v342 c32_i32_283
  let c1_i32_288 : BitVec 32 := 1#32
  let v346 : BitVec 32 := Scalar.muli v343 c1_i32_288
  let v347 : BitVec 32 := Scalar.addi c0_i32_289 v346
  v347.toNat
def k0_dev46 (d0 : Dev nD) : Nat :=
  let c0_i32_299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_292 : BitVec 32 := 15#32
  let v354 : BitVec 32 := Scalar.addi v2 c15_i32_292
  let c32_i32_293 : BitVec 32 := 32#32
  let v355 : BitVec 32 := Scalar.remsi v354 c32_i32_293
  let c1_i32_298 : BitVec 32 := 1#32
  let v358 : BitVec 32 := Scalar.muli v355 c1_i32_298
  let v359 : BitVec 32 := Scalar.addi c0_i32_299 v358
  v359.toNat
def k0_dev47 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_302 : BitVec 32 := 16#32
  let v366 : BitVec 32 := Scalar.addi v2 c16_i32_302
  let c32_i32_303 : BitVec 32 := 32#32
  let v367 : BitVec 32 := Scalar.remsi v366 c32_i32_303
  let c1_i32_308 : BitVec 32 := 1#32
  let v370 : BitVec 32 := Scalar.muli v367 c1_i32_308
  let v371 : BitVec 32 := Scalar.addi c0_i32_309 v370
  v371.toNat
def k0_dev48 (d0 : Dev nD) : Nat :=
  let c0_i32_319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_312 : BitVec 32 := 17#32
  let v378 : BitVec 32 := Scalar.addi v2 c17_i32_312
  let c32_i32_313 : BitVec 32 := 32#32
  let v379 : BitVec 32 := Scalar.remsi v378 c32_i32_313
  let c1_i32_318 : BitVec 32 := 1#32
  let v382 : BitVec 32 := Scalar.muli v379 c1_i32_318
  let v383 : BitVec 32 := Scalar.addi c0_i32_319 v382
  v383.toNat
def k0_dev49 (d0 : Dev nD) : Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_322 : BitVec 32 := 18#32
  let v390 : BitVec 32 := Scalar.addi v2 c18_i32_322
  let c32_i32_323 : BitVec 32 := 32#32
  let v391 : BitVec 32 := Scalar.remsi v390 c32_i32_323
  let c1_i32_328 : BitVec 32 := 1#32
  let v394 : BitVec 32 := Scalar.muli v391 c1_i32_328
  let v395 : BitVec 32 := Scalar.addi c0_i32_329 v394
  v395.toNat
def k0_dev50 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_332 : BitVec 32 := 19#32
  let v402 : BitVec 32 := Scalar.addi v2 c19_i32_332
  let c32_i32_333 : BitVec 32 := 32#32
  let v403 : BitVec 32 := Scalar.remsi v402 c32_i32_333
  let c1_i32_338 : BitVec 32 := 1#32
  let v406 : BitVec 32 := Scalar.muli v403 c1_i32_338
  let v407 : BitVec 32 := Scalar.addi c0_i32_339 v406
  v407.toNat
def k0_dev51 (d0 : Dev nD) : Nat :=
  let c0_i32_349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_342 : BitVec 32 := 20#32
  let v414 : BitVec 32 := Scalar.addi v2 c20_i32_342
  let c32_i32_343 : BitVec 32 := 32#32
  let v415 : BitVec 32 := Scalar.remsi v414 c32_i32_343
  let c1_i32_348 : BitVec 32 := 1#32
  let v418 : BitVec 32 := Scalar.muli v415 c1_i32_348
  let v419 : BitVec 32 := Scalar.addi c0_i32_349 v418
  v419.toNat
def k0_dev52 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_352 : BitVec 32 := 21#32
  let v426 : BitVec 32 := Scalar.addi v2 c21_i32_352
  let c32_i32_353 : BitVec 32 := 32#32
  let v427 : BitVec 32 := Scalar.remsi v426 c32_i32_353
  let c1_i32_358 : BitVec 32 := 1#32
  let v430 : BitVec 32 := Scalar.muli v427 c1_i32_358
  let v431 : BitVec 32 := Scalar.addi c0_i32_359 v430
  v431.toNat
def k0_dev53 (d0 : Dev nD) : Nat :=
  let c0_i32_369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_362 : BitVec 32 := 22#32
  let v438 : BitVec 32 := Scalar.addi v2 c22_i32_362
  let c32_i32_363 : BitVec 32 := 32#32
  let v439 : BitVec 32 := Scalar.remsi v438 c32_i32_363
  let c1_i32_368 : BitVec 32 := 1#32
  let v442 : BitVec 32 := Scalar.muli v439 c1_i32_368
  let v443 : BitVec 32 := Scalar.addi c0_i32_369 v442
  v443.toNat
def k0_dev54 (d0 : Dev nD) : Nat :=
  let c0_i32_379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_372 : BitVec 32 := 23#32
  let v450 : BitVec 32 := Scalar.addi v2 c23_i32_372
  let c32_i32_373 : BitVec 32 := 32#32
  let v451 : BitVec 32 := Scalar.remsi v450 c32_i32_373
  let c1_i32_378 : BitVec 32 := 1#32
  let v454 : BitVec 32 := Scalar.muli v451 c1_i32_378
  let v455 : BitVec 32 := Scalar.addi c0_i32_379 v454
  v455.toNat
def k0_dev55 (d0 : Dev nD) : Nat :=
  let c0_i32_389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_382 : BitVec 32 := 24#32
  let v462 : BitVec 32 := Scalar.addi v2 c24_i32_382
  let c32_i32_383 : BitVec 32 := 32#32
  let v463 : BitVec 32 := Scalar.remsi v462 c32_i32_383
  let c1_i32_388 : BitVec 32 := 1#32
  let v466 : BitVec 32 := Scalar.muli v463 c1_i32_388
  let v467 : BitVec 32 := Scalar.addi c0_i32_389 v466
  v467.toNat
def k0_dev56 (d0 : Dev nD) : Nat :=
  let c0_i32_399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_392 : BitVec 32 := 25#32
  let v474 : BitVec 32 := Scalar.addi v2 c25_i32_392
  let c32_i32_393 : BitVec 32 := 32#32
  let v475 : BitVec 32 := Scalar.remsi v474 c32_i32_393
  let c1_i32_398 : BitVec 32 := 1#32
  let v478 : BitVec 32 := Scalar.muli v475 c1_i32_398
  let v479 : BitVec 32 := Scalar.addi c0_i32_399 v478
  v479.toNat
def k0_dev57 (d0 : Dev nD) : Nat :=
  let c0_i32_409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_402 : BitVec 32 := 26#32
  let v486 : BitVec 32 := Scalar.addi v2 c26_i32_402
  let c32_i32_403 : BitVec 32 := 32#32
  let v487 : BitVec 32 := Scalar.remsi v486 c32_i32_403
  let c1_i32_408 : BitVec 32 := 1#32
  let v490 : BitVec 32 := Scalar.muli v487 c1_i32_408
  let v491 : BitVec 32 := Scalar.addi c0_i32_409 v490
  v491.toNat
def k0_dev58 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_412 : BitVec 32 := 27#32
  let v498 : BitVec 32 := Scalar.addi v2 c27_i32_412
  let c32_i32_413 : BitVec 32 := 32#32
  let v499 : BitVec 32 := Scalar.remsi v498 c32_i32_413
  let c1_i32_418 : BitVec 32 := 1#32
  let v502 : BitVec 32 := Scalar.muli v499 c1_i32_418
  let v503 : BitVec 32 := Scalar.addi c0_i32_419 v502
  v503.toNat
def k0_dev59 (d0 : Dev nD) : Nat :=
  let c0_i32_429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_422 : BitVec 32 := 28#32
  let v510 : BitVec 32 := Scalar.addi v2 c28_i32_422
  let c32_i32_423 : BitVec 32 := 32#32
  let v511 : BitVec 32 := Scalar.remsi v510 c32_i32_423
  let c1_i32_428 : BitVec 32 := 1#32
  let v514 : BitVec 32 := Scalar.muli v511 c1_i32_428
  let v515 : BitVec 32 := Scalar.addi c0_i32_429 v514
  v515.toNat
def k0_dev60 (d0 : Dev nD) : Nat :=
  let c0_i32_439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_432 : BitVec 32 := 29#32
  let v522 : BitVec 32 := Scalar.addi v2 c29_i32_432
  let c32_i32_433 : BitVec 32 := 32#32
  let v523 : BitVec 32 := Scalar.remsi v522 c32_i32_433
  let c1_i32_438 : BitVec 32 := 1#32
  let v526 : BitVec 32 := Scalar.muli v523 c1_i32_438
  let v527 : BitVec 32 := Scalar.addi c0_i32_439 v526
  v527.toNat
def k0_dev61 (d0 : Dev nD) : Nat :=
  let c0_i32_449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_442 : BitVec 32 := 30#32
  let v534 : BitVec 32 := Scalar.addi v2 c30_i32_442
  let c32_i32_443 : BitVec 32 := 32#32
  let v535 : BitVec 32 := Scalar.remsi v534 c32_i32_443
  let c1_i32_448 : BitVec 32 := 1#32
  let v538 : BitVec 32 := Scalar.muli v535 c1_i32_448
  let v539 : BitVec 32 := Scalar.addi c0_i32_449 v538
  v539.toNat
def k0_dev62 (d0 : Dev nD) : Nat :=
  let c0_i32_459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_452 : BitVec 32 := 31#32
  let v546 : BitVec 32 := Scalar.addi v2 c31_i32_452
  let c32_i32_453 : BitVec 32 := 32#32
  let v547 : BitVec 32 := Scalar.remsi v546 c32_i32_453
  let c1_i32_458 : BitVec 32 := 1#32
  let v550 : BitVec 32 := Scalar.muli v547 c1_i32_458
  let v551 : BitVec 32 := Scalar.addi c0_i32_459 v550
  v551.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_462 : BitVec 32 := 16#32
  let v558 : BitVec 32 := Scalar.muli v2 c16_i32_462
  let v559 : Index := Scalar.indexCast v558
  let c0_463 : Index := 0#32
  ![v559.toNat, 0]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_466 : BitVec 32 := 16#32
  let v566 : BitVec 32 := Scalar.muli v2 c16_i32_466
  let v567 : Index := Scalar.indexCast v566
  let c0_467 : Index := 0#32
  ![v567.toNat, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x64 : Shape := ⟨2, ![256, 64]⟩
abbrev S512x1 : Shape := ⟨2, ![512, 1]⟩
abbrev S64x256x512 : Shape := ⟨3, ![64, 256, 512]⟩
abbrev S256x512 : Shape := ⟨2, ![256, 512]⟩
abbrev S512x64 : Shape := ⟨2, ![512, 64]⟩
abbrev S_ : Shape := ⟨0, ![]⟩
abbrev S512 : Shape := ⟨1, ![512]⟩
abbrev S512x512 : Shape := ⟨2, ![512, 512]⟩
abbrev S512x1x1 : Shape := ⟨3, ![512, 1, 1]⟩
abbrev S512x256x512 : Shape := ⟨3, ![512, 256, 512]⟩

abbrev nBuf : Space → Nat
  | .hbm => 45
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x1, .i32⟩
  | .hbm, ⟨3, _⟩ => ⟨S64x256x512, .bf16⟩
  | .hbm, ⟨4, _⟩ => ⟨S256x512, .bf16⟩
  | .hbm, ⟨5, _⟩ => ⟨S512x64, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S512x64, .f32⟩
  | .hbm, ⟨10, _⟩ => ⟨S512x64, .f32⟩
  | .hbm, ⟨11, _⟩ => ⟨S512x64, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S512x64, .f32⟩
  | .hbm, ⟨16, _⟩ => ⟨S512x64, .f32⟩
  | .hbm, ⟨17, _⟩ => ⟨S512x512, .f32⟩
  | .hbm, ⟨18, _⟩ => ⟨S_, .i32⟩
  | .hbm, ⟨19, _⟩ => ⟨S512x1, .i32⟩
  | .hbm, ⟨20, _⟩ => ⟨S512x1, .i1⟩
  | .hbm, ⟨21, _⟩ => ⟨S_, .i32⟩
  | .hbm, ⟨22, _⟩ => ⟨S512x1, .i32⟩
  | .hbm, ⟨23, _⟩ => ⟨S512x1, .i1⟩
  | .hbm, ⟨24, _⟩ => ⟨S512x1, .i1⟩
  | .hbm, ⟨25, _⟩ => ⟨S_, .i32⟩
  | .hbm, ⟨26, _⟩ => ⟨S512x1, .i32⟩
  | .hbm, ⟨27, _⟩ => ⟨S512x1, .i1⟩
  | .hbm, ⟨28, _⟩ => ⟨S_, .i32⟩
  | .hbm, ⟨29, _⟩ => ⟨S512x1, .i32⟩
  | .hbm, ⟨30, _⟩ => ⟨S512x1, .i32⟩
  | .hbm, ⟨31, _⟩ => ⟨S512x1, .i32⟩
  | .hbm, ⟨32, _⟩ => ⟨S512x1x1, .i32⟩
  | .hbm, ⟨33, _⟩ => ⟨S512x1, .f32⟩
  | .hbm, ⟨34, _⟩ => ⟨S_, .f32⟩
  | .hbm, ⟨35, _⟩ => ⟨S_, .f32⟩
  | .hbm, ⟨36, _⟩ => ⟨S512x1, .f32⟩
  | .hbm, ⟨37, _⟩ => ⟨S512x1, .f32⟩
  | .hbm, ⟨38, _⟩ => ⟨S512, .i32⟩
  | .hbm, ⟨39, _⟩ => ⟨S512x1, .i32⟩
  | .hbm, ⟨40, _⟩ => ⟨S512x256x512, .bf16⟩
  | .hbm, ⟨41, _⟩ => ⟨S512x512, .f32⟩
  | .hbm, ⟨42, _⟩ => ⟨S512x512, .f32⟩
  | .hbm, ⟨43, _⟩ => ⟨S512x512, .f32⟩
  | .hbm, ⟨44, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_v17 : Ref sig .tc := ⟨.hbm, 37, rfl⟩
abbrev main_v18 : Ref sig .tc := ⟨.hbm, 38, rfl⟩
abbrev main_call2_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Proof.Order.lean ====
/-
  The kernel's body put in order: the same operations as printed, in the same order, with each of its
  repeated stretches (signals, copies, waits, row loads) written once as a recursion over the list of what it
  ranges over. `body_order` says that the printed body is this one.
-/
module

public import proofs.«01_k».proof.Proof.Gen.KernelIdeal
public import proofs.«01_k».proof.Proof.Gen.KernelIdeal.Skeleton

@[expose] public section

noncomputable section

namespace Cert.Moe

open Cert.KernelIdeal Cert.KernelIdeal.Gen
open Idealize.ShloMosaic Idealize.SL.Sem
open Idealize.ShloMosaic.TcCoe

variable {F : FTy → Type} [FloatOps F]

/-! ## The buffers -/

abbrev xM : Memref sig .tc .vmem S512x256 .bf16 := Memref.whole cc0_stg0_0
abbrev rM : Memref sig .tc .vmem S256x64 .bf16 := Memref.whole cc0_stg1_0
abbrev iM : Memref sig .tc .vmem S512x1 .i32 := Memref.whole cc0_stg2_0
abbrev eM : Memref sig .tc .vmem S2x256x512 .bf16 := Memref.whole cc0_stg3_0
abbrev sM : Memref sig .tc .vmem S256x512 .bf16 := Memref.whole cc0_stg4_0
abbrev oM : Memref sig .tc .vmem S16x512 .f32 := Memref.whole cc0_stg5_0
/-- The contributions of the device's own two experts, a row per token; -/
abbrev cM : Memref sig .tc .vmem S512x512 .bf16 := Memref.whole cc0_scratch0
/-- and the blocks of sixteen rows that land from every device. -/
abbrev vM : Memref sig .tc .vmem S512x512 .bf16 := Memref.whole cc0_scratch1

theorem cW : (cM : Memref sig .tc .vmem S512x512 .bf16).IsWhole := Memref.isWhole_whole _
theorem vW : (vM : Memref sig .tc .vmem S512x512 .bf16).IsWhole := Memref.isWhole_whole _

/-! ## The peers and the semaphores -/

/-- The word by which the kernel names the device `w` places on. -/
def peerWord (c : Dev nD) (w : BitVec 32) : BitVec 32 :=
  Scalar.addi 0#32 (Scalar.muli (Scalar.remsi (Scalar.addi (Scalar.remsi (Scalar.divsi (Dev.word c) 1#32) 32#32) w) 32#32) 1#32)

theorem peerWord_eq : ∀ (c : Dev nD) (r : Fin 31),
    (peerWord c (BitVec.ofNat 32 (1 + r.val))).toNat = (c.val + r.val + 1) % 32 := by decide +kernel

theorem peer_lt (c : Dev nD) (r : Fin 31) : (peerWord c (BitVec.ofNat 32 (1 + r.val))).toNat < nD := by
  rw [peerWord_eq]; exact Nat.mod_lt _ (by decide)

/-- The device `r + 1` places on. -/
def peer (c : Dev nD) (r : Fin 31) : Dev nD := ⟨(peerWord c (BitVec.ofNat 32 (1 + r.val))).toNat, peer_lt c r⟩

theorem peer_val (c : Dev nD) (r : Fin 31) : (peer c r).val = (c.val + r.val + 1) % 32 := peerWord_eq c r

/-- The entry barrier's semaphore. -/
abbrev barS : Sem sig := (SemArray.scalar (sig.barrier 0 rfl) : Sems sig S_).sem

theorem sem_inb (r : Fin 31) : ∀ a, (![r.val] : Fin 1 → Nat) a + S1.size a ≤ S31.size a := by
  intro a; fin_cases a; exact r.isLt

/-- The semaphore of the copy to the device `r + 1` places on, at the sender; -/
abbrev sendS (r : Fin 31) : DmaSem sig :=
  ((cc0_scratch2.slice (Rect.unit (s := S31) ![r.val] S1.size (sem_inb r))).squeeze S_ squeezes_S1_S_).sem
/-- and of the copy from the device `r + 1` places back, at the receiver. -/
abbrev recvS (r : Fin 31) : DmaSem sig :=
  ((cc0_scratch3.slice (Rect.unit (s := S31) ![r.val] S1.size (sem_inb r))).squeeze S_ squeezes_S1_S_).sem

/-- The sixteen rows of contributions meant for the device `r + 1` places on; -/
abbrev cOut (c : Dev nD) (r : Fin 31) : Memref sig .tc .vmem S16x512 .bf16 :=
  cM.slice (Rect.unit (s := S512x512) (k0_off2 c (BitVec.ofNat 32 (1 + r.val))) S16x512.size (k0_off2_inb c r)) (fun _ => rfl)
/-- and the sixteen rows that device `c` writes at each receiver. -/
abbrev vIn (c : Dev nD) : Memref sig .tc .vmem S16x512 .bf16 :=
  vM.slice (Rect.unit (s := S512x512) (k0_off1 c) S16x512.size (k0_off1_inb c)) (fun _ => rfl)

/-! ## The stretches -/

variable (F) in
abbrev Pr : Type 1 := Prog (TpuEff nD τ sig (Elt F) Λ₀ .tc) PUnit

/-- A unit to each listed peer's barrier. -/
def signals (c : Dev nD) : List (Fin 31) → Pr F → Pr F
  | [], k => k
  | r :: l, k => .op (.semSignal ((peer c r : Dev nD), .tc) barS ((1 : ℕ) : Int)) fun _ => signals c l k

/-- A copy of its rows to each listed peer. -/
def sends (c : Dev nD) : List (Fin 31) → Pr F → Pr F
  | [], k => k
  | r :: l, k =>
    .op (.enqueueDma (cOut c r) (.remote (Dev.tc (peer c r)) (vIn c) (.dma (sendS r))) (.dma (recvS r))
      (cW.wordExact_slice rfl _ (k0_off2_wordsbf16 c r)) (vW.wordExact_slice rfl _ (k0_off1_wordsbf16 c)) ⟨⟨rfl, Or.inl rfl⟩, trivial⟩)
      fun _ => sends c l k

/-- The landing of each listed copy into this device awaited. -/
def recvWaits (c : Dev nD) : List (Fin 31) → Pr F → Pr F
  | [], k => k
  | r :: l, k =>
    .op (.waitDma2 (recvS r) (cOut c r) (vIn c) (cW.wordExact_slice rfl _ (k0_off2_wordsbf16 c r)) (vW.wordExact_slice rfl _ (k0_off1_wordsbf16 c)))
      fun _ => recvWaits c l k

/-- The departure of each listed copy out of this device awaited. -/
def sendWaits (c : Dev nD) : List (Fin 31) → Pr F → Pr F
  | [], k => k
  | r :: l, k =>
    .op (.waitDma2 (sendS r) (vIn c) (cOut c r) (vW.wordExact_slice rfl _ (k0_off1_wordsbf16 c)) (cW.wordExact_slice rfl _ (k0_off2_wordsbf16 c r)))
      fun _ => sendWaits c l k

theorem row_inb (j : Fin 32) : ∀ a, (![16 * j.val, 0] : Fin 2 → Nat) a + S16x512.size a ≤ S512x512.size a := by
  intro a
  fin_cases a
  · show 16 * j.val + 16 ≤ 512; omega
  · exact Nat.le_refl 512

/-- Rows `16 j` to `16 j + 15`. -/
abbrev rowR (j : Fin 32) : Rect S512x512 := Rect.unit (s := S512x512) ![16 * j.val, 0] S16x512.size (row_inb j)

/-- The running sum with one more block. -/
def accum (acc : FVec F S16x512 .f32) (v : Vec F S16x512 .bf16) : FVec F S16x512 .f32 :=
  addf acc (extf .f32 v bitsLt_bf16_f32)

/-- Each listed block of landed rows loaded and added up. -/
def sumRows : List (Fin 32) → FVec F S16x512 .f32 → (FVec F S16x512 .f32 → Pr F) → Pr F
  | [], acc, k => k acc
  | j :: l, acc, k => .op (.load vM (rowR j).toLoadRect (View.loadsAt_vmem h_S16x512)) fun v => sumRows l (accum acc v) k

abbrev allR : List (Fin 31) := [0, 1, 2, 3, 4, 5, 6, 7, 8, 9, 10, 11, 12, 13, 14, 15, 16, 17, 18, 19, 20, 21, 22, 23, 24, 25, 26, 27, 28, 29, 30]
abbrev allJ : List (Fin 32) := [0, 1, 2, 3, 4, 5, 6, 7, 8, 9, 10, 11, 12, 13, 14, 15, 16, 17, 18, 19, 20, 21, 22, 23, 24, 25, 26, 27, 28, 29, 30, 31]

/-- The word of the device's own place. -/
abbrev placeWord (c : Dev nD) : BitVec 32 := Scalar.remsi (Scalar.divsi (Dev.word c) 1#32) 32#32

/-- The contributions a device computes from what it holds: both its experts' weighted outputs, a row per token. -/
def contribOf (c : Dev nD) (x : Vec F S512x256 .bf16) (rt : Vec F S256x64 .bf16) (ix : Vec F S512x1 .i32)
    (e₀ e₁ : Vec F S1x256x512 .bf16) : FVec F S512x512 .bf16 :=
  k0_pay8 (placeWord c) (k0_pay1 x) (k0_pay2 x rt) (k0_pay3 (F := F) ix) (iota .tc S512x64 32 [1] iota_S512x64_d1_w32)
    (k0_pay4 (F := F)) (Scalar.addi (Scalar.muli (placeWord c) 2#32) 0#32) (k0_pay5 x e₀) (k0_pay6 (placeWord c)) (k0_pay7 (F := F)) e₁

/-- The second half: the copies, the device's own block, the sum of all blocks and the waits. -/
def exchange (c : Dev nD) : Pr F :=
  sends c allR <|
  .op (.load cM (Rect.unit (s := S512x512) (k0_off3 c) S16x512.size (k0_off3_inb c)).toLoadRect (View.loadsAt_vmem h_S16x512)) fun own =>
  .op (.load vM (Rect.unit (s := S512x512) (k0_off3 c) S16x512.size (k0_off3_inb c)).toLoadRect (View.loadsAt_vmem h_S16x512)) fun _ =>
  .op (.store vM (Rect.unit (s := S512x512) (k0_off3 c) S16x512.size (k0_off3_inb c)) (k0_pay9 own) Finset.univ
    (View.stores_vmem h_S16x512 (vW.storeExact_slice rfl _ (k0_off3_packedbf16 c)) (fun _ => rfl)) (.inl rfl)) fun _ =>
  .op (.load xM (Rect.unit (s := S512x256) (k0_off4 c) S16x256.size (k0_off4_inb c)).toLoadRect (View.loadsAt_vmem h_S16x256)) fun xs =>
  .op (.load sM (Rect.unit (s := S256x512) ![0, 0] S256x512.size inb_S256x512_S256x512_0_0).toLoadRect (View.loadsAt_vmem h_S256x512)) fun sw =>
  recvWaits c allR <|
  sumRows allJ (k0_pay10 xs sw) fun acc =>
  .op (.load oM (Rect.unit (s := S16x512) ![0, 0] S16x512.size inb_S16x512_S16x512_0_0).toLoadRect (View.loadsAt_vmem h_S16x512)) fun _ =>
  .op (.store oM (Rect.unit (s := S16x512) ![0, 0] S16x512.size inb_S16x512_S16x512_0_0) acc Finset.univ
    (View.stores_vmem_bits_univ h_S16x512 rfl) (.inl rfl)) fun _ =>
  sendWaits c allR (.ret ⟨⟩)

/-- The body in order. -/
def ordered : Pr F :=
  .op .deviceId fun c =>
  signals c allR <|
  .op (.load xM (Rect.unit (s := S512x256) ![0, 0] S512x256.size inb_S512x256_S512x256_0_0).toLoadRect (View.loadsAt_vmem h_S512x256)) fun x =>
  .op (.load rM (Rect.unit (s := S256x64) ![0, 0] S256x64.size inb_S256x64_S256x64_0_0).toLoadRect (View.loadsAt_vmem h_S256x64)) fun rt =>
  .op (.load iM (Rect.unit (s := S512x1) ![0, 0] S512x1.size inb_S512x1_S512x1_0_0).toLoadRect (View.loadsAt_vmem h_S512x1)) fun ix =>
  .op (.load eM (Rect.unit (s := S2x256x512) ![0, 0, 0] S1x256x512.size inb_S2x256x512_S1x256x512_0_0_0).toLoadRect (View.loadsAt_vmem h_S1x256x512)) fun e₀ =>
  .op (.load eM (Rect.unit (s := S2x256x512) ![1, 0, 0] S1x256x512.size inb_S2x256x512_S1x256x512_1_0_0).toLoadRect (View.loadsAt_vmem h_S1x256x512)) fun e₁ =>
  .op (.load cM (Rect.unit (s := S512x512) ![0, 0] S512x512.size inb_S512x512_S512x512_0_0).toLoadRect (View.loadsAt_vmem h_S512x512)) fun _ =>
  .op (.store cM (Rect.unit (s := S512x512) ![0, 0] S512x512.size inb_S512x512_S512x512_0_0) (contribOf c x rt ix e₀ e₁) Finset.univ
    (View.stores_vmem h_S512x512 (cW.storeExact_slice rfl _ packedbf16_S512x512_S512x512_0_0) (fun _ => rfl)) (.inl rfl)) fun _ =>
  .op (.semWait barS ((31 : ℕ) : Int)) fun _ => exchange c

set_option maxRecDepth 65536 in
/-- The printed body is the ordered one: by definitional unfolding. -/
theorem body_order :
    cc0_body (F := F) xM (Memref.isWhole_whole _) rM (Memref.isWhole_whole _) iM (Memref.isWhole_whole _) eM (Memref.isWhole_whole _)
      sM (Memref.isWhole_whole _) oM (Memref.isWhole_whole _) cM (Memref.isWhole_whole _) vM (Memref.isWhole_whole _) cc0_scratch2 cc0_scratch3
      = ordered := rfl

end Cert.Moe

end
-- ==== Proof.Blocks.lean ====
/-
  The two scratch buffers cut into thirty-two blocks of sixteen rows, and what a block holds once device `q`'s
  sixteen rows for device `p` are written into it.
-/
module

public import proofs.«01_k».proof.Proof.Order
public import Idealize.ShloMosaic.Lib.ValueIdxCore
public import Idealize.ShloMosaic.Lib.Pipeline.Kit
public import Idealize.ShloMosaic.Lib.Ring

@[expose] public section

noncomputable section

namespace Cert.Moe

open Cert.KernelIdeal Cert.KernelIdeal.Gen
open Idealize.ShloMosaic Idealize.SL Idealize.SL.RA Idealize.SL.BI Idealize.SL.Sem
open scoped Idealize.SL.BI
open Idealize.SL.BI.BIBase
open Idealize.ShloMosaic.TcCoe
open Idealize.ShloMosaic.ValueIdx (ix2)

variable {F : FTy → Type} [FloatOps F]

/-! ## The peers of a device -/

/-- The device `r + 1` places back. -/
theorem peer_rev (c : Dev nD) (r : Fin 31) : peer (peer c r) r.rev = c := by
  apply Fin.ext
  have h := r.isLt
  have hc : c.val < 32 := c.isLt
  rw [peer_val, peer_val, Fin.val_rev]
  omega

theorem peer_ne (c : Dev nD) (r : Fin 31) : peer c r ≠ c := fun h => by
  have h' := congrArg Fin.val h
  rw [peer_val] at h'
  have := r.isLt
  have hc : c.val < 32 := c.isLt
  omega

theorem peer_inj (c : Dev nD) : Function.Injective (peer c) := fun r r' h => by
  have h' := congrArg Fin.val h
  rw [peer_val, peer_val] at h'
  have := r.isLt
  have := r'.isLt
  have hc : c.val < 32 := c.isLt
  exact Fin.ext (by omega)

/-- Every device but `c` is a peer of `c`. -/
theorem others_eq (c : Dev nD) : (Finset.univ : Finset (Dev nD)).erase c = Finset.univ.map ⟨peer c, peer_inj c⟩ := by
  refine (Finset.eq_of_subset_of_card_le (fun d hd => ?_) ?_).symm
  · obtain ⟨r, -, rfl⟩ := Finset.mem_map.mp hd
    exact Finset.mem_erase.mpr ⟨peer_ne c r, Finset.mem_univ _⟩
  · rw [Finset.card_map, Finset.card_erase_of_mem (Finset.mem_univ _), Finset.card_univ, Finset.card_univ, Fintype.card_fin, Fintype.card_fin]
    exact (by decide : nD - 1 ≤ 31)

/-- One step around by a fixed distance, as a rearrangement of the devices. -/
def turn (r : Fin 31) : Dev nD ≃ Dev nD where
  toFun c := peer c r
  invFun c := peer c r.rev
  left_inv c := peer_rev c r
  right_inv c := by have := peer_rev c r.rev; rwa [Fin.rev_rev] at this

theorem all_split {M : Type} [URA M] (c : Dev nD) (Φ : Dev nD → sProp M) :
    bigSep Finset.univ Φ = iprop(Φ c ∗ bigSep Finset.univ fun r : Fin 31 => Φ (peer c r)) := by
  rw [bigSep_univ_split c, others_eq c, bigSep_map]; rfl

/-! ## The blocks -/

/-- The elements of the block of rows `16 j` to `16 j + 15`. -/
def rows (j : Dev nD) : Finset S512x512.Idx := (rowR j).set

theorem mem_rows {j : Dev nD} {i : S512x512.Idx} : i ∈ rows j ↔ (i 0).val / 16 = j.val := by
  unfold rows
  rw [Rect.mem_set_unit]
  refine ⟨fun h => ?_, fun h a => ?_⟩
  · have h0 := h 0
    have e1 : 16 * j.val ≤ (i 0).val := h0.1
    have e2 : (i 0).val < 16 * j.val + 16 := h0.2
    omega
  · fin_cases a
    · show 16 * j.val ≤ (i 0).val ∧ (i 0).val < 16 * j.val + 16
      omega
    · exact ⟨Nat.zero_le _, by have := (i 1).isLt; show (i 1).val < 0 + 512; have h512 : (i 1).val < 512 := this; omega⟩

theorem rows_disjoint : ∀ a b : Dev nD, a ≠ b → Disjoint (rows a) (rows b) := fun a b h => by
  rw [Finset.disjoint_left]
  intro i ha hb
  exact h (Fin.ext ((mem_rows.mp ha).symm.trans (mem_rows.mp hb)))

theorem rows_cover (i : S512x512.Idx) : ∃ j, i ∈ rows j := by
  have hi : (i 0).val < 512 := (i 0).isLt
  exact ⟨⟨(i 0).val / 16, by show _ < 32; omega⟩, mem_rows.mpr rfl⟩

theorem set_of_off {off : Fin 2 → ℕ} {inb} (j : Dev nD) (h : off = ![16 * j.val, 0]) :
    (Rect.unit (s := S512x512) off S16x512.size inb).set = rows j := by subst h; rfl

theorem off_out (c : Dev nD) (r : Fin 31) : k0_off2 c (BitVec.ofNat 32 (1 + r.val)) = ![16 * (peer c r).val, 0] := by
  rw [k0_off2_eq, peer_val]

theorem out_set (c : Dev nD) (r : Fin 31) : (cOut c r).view.set = rows (peer c r) :=
  (View.set_slice_whole cc0_scratch0 _).trans (set_of_off _ (off_out c r))
theorem in_set (c : Dev nD) : (vIn c).view.set = rows c :=
  (View.set_slice_whole cc0_scratch1 _).trans (set_of_off _ (k0_off1_eq c))

/-! ## What lands -/

/-- What the landing buffer of device `p` holds at the end, when device `q` contributes `C q`: in block `q`, rows
    `16 p` to `16 p + 15` of `C q`. -/
def landedOf (C : Dev nD → FVec F S512x512 .bf16) (p : Dev nD) : FVec F S512x512 .bf16 := fun i =>
  C ⟨(i 0).val / 16, by have hi : (i 0).val < 512 := (i 0).isLt; show _ < 32; omega⟩
    (ix2 ⟨16 * p.val + (i 0).val % 16, by have hp : p.val < 32 := p.isLt; omega⟩ (i 1))

/-- A read through the block at one offset written through the block at another, element by element. -/
theorem landed_at {off off' : Fin 2 → ℕ} {inb inb'} (C : Dev nD → FVec F S512x512 .bf16) (q p : Dev nD)
    (h : off = ![16 * q.val, 0]) (h' : off' = ![16 * p.val, 0]) (fd : (cc0_scratch1 : Ref sig .tc).ty.Contents (Elt F)) :
    ∀ i ∈ rows q,
      ((View.whole cc0_scratch1).slice (Rect.unit (s := S512x512) off S16x512.size inb)).write (Elt F) fd
        (((View.whole cc0_scratch0).slice (Rect.unit (s := S512x512) off' S16x512.size inb')).read (Elt F) (C q)) Finset.univ i
      = landedOf C p i := by
  subst h; subst h'
  intro i hi
  rw [← set_of_off (inb := inb) q rfl, ← View.set_slice_whole cc0_scratch1] at hi
  obtain ⟨x, -, rfl⟩ := Finset.mem_map.mp hi
  rw [View.write_emb_of_mem (h := Finset.mem_univ x)]
  have hx0 : (x 0).val < 16 := (x 0).isLt
  have hq : q.val < 32 := q.isLt
  have e0 : ∀ {b : ℕ} {inb}, ((Rect.unit (s := S512x512) ![16 * b, 0] S16x512.size inb).emb x 0).val = 16 * b + (x 0).val := fun {b inb} => by
    show 16 * b + 1 * (x 0).val = _; omega
  have e1 : ∀ {b : ℕ} {inb}, ((Rect.unit (s := S512x512) ![16 * b, 0] S16x512.size inb).emb x 1).val = (x 1).val := fun {b inb} => by
    show 0 + 1 * (x 1).val = _; omega
  show C q ((Rect.unit (s := S512x512) ![16 * p.val, 0] S16x512.size inb').emb x)
    = landedOf C p ((Rect.unit (s := S512x512) ![16 * q.val, 0] S16x512.size inb).emb x)
  unfold landedOf
  have hdev : (⟨((Rect.unit (s := S512x512) ![16 * q.val, 0] S16x512.size inb).emb x 0).val / 16, by rw [e0]; show _ < 32; omega⟩ : Dev nD) = q :=
    Fin.ext (by show _ / 16 = _; rw [e0]; omega)
  rw [hdev]
  congr 1
  funext a
  apply Fin.ext
  fin_cases a
  · refine (e0 (b := p.val) (inb := inb')).trans ?_
    show _ = 16 * p.val + ((Rect.unit (s := S512x512) ![16 * q.val, 0] S16x512.size inb).emb x 0).val % 16
    rw [e0]; omega
  · exact (e1 (b := p.val) (inb := inb')).trans (e1 (b := q.val) (inb := inb)).symm

end Cert.Moe

end
-- ==== Proof.Protocol.lean ====
/-
  The protocol of the exchange: which semaphore of which device is raised by whom, what each raise hands over, what
  every device owes when the kernel starts, and the order the semaphores are waited for in.

  Each device `c` has a barrier semaphore, raised once by every other device; thirty-one sender semaphores, the
  `r`-th raised by its own copy to `peer c r`; and thirty-one receiver semaphores, the `r`-th raised by the copy from
  the device whose `r`-th peer `c` is. A device's raise of `q`'s barrier hands `q` the sixteen landing rows that
  `q`'s copy will write; a landing hands the receiver these rows filled, a departure hands the sender its source rows
  back.
-/
module

public import proofs.«01_k».proof.Proof.Blocks
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Tactic

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The exchange's own records beside the pipeline's: a cell's duties are named by `Fin 31`. -/
abbrev UX : Type := URounds (GSem nD τ sig) (Fin 31)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ)

/-! ## The semaphores of the exchange -/

/-- The kernel's own semaphores: thirty-one of the sender's side, thirty-one of the receiver's; -/
abbrev Own : Type := Fin 31 ⊕ Fin 31
/-- and with them the barrier's. -/
abbrev Role : Type := Unit ⊕ Own

abbrev ownSem : Own → SemLoc sig
  | .inl r => .dma (sendS r)
  | .inr r => .dma (recvS r)
abbrev roleSem : Role → SemLoc sig
  | .inl _ => .reg barS
  | .inr o => ownSem o

theorem sendS_val : ∀ r : Fin 31, (sendS r).val = 6 + r.val := by decide +kernel
theorem recvS_val : ∀ r : Fin 31, (recvS r).val = 37 + r.val := by decide +kernel

theorem ownSem_inj : Function.Injective ownSem := by
  rintro (r | r) (r' | r') h
  · have := congrArg Fin.val (SemLoc.dma.inj h); rw [sendS_val, sendS_val] at this; exact congrArg _ (Fin.ext (by omega))
  · have := congrArg Fin.val (SemLoc.dma.inj h); rw [sendS_val, recvS_val] at this; have := r.isLt; omega
  · have := congrArg Fin.val (SemLoc.dma.inj h); rw [recvS_val, sendS_val] at this; have := r'.isLt; omega
  · have := congrArg Fin.val (SemLoc.dma.inj h); rw [recvS_val, recvS_val] at this; exact congrArg _ (Fin.ext (by omega))

theorem roleSem_inj : Function.Injective roleSem := by
  rintro (u | o) (u' | o') h
  · rfl
  · rcases o' with r | r <;> cases h
  · rcases o with r | r <;> cases h
  · exact congrArg _ (ownSem_inj h)

/-- Which of the exchange's semaphores this is, if any. -/
def roleOf (s : SemLoc sig) : Option Role := Function.partialInv roleSem s

theorem roleOf_sem (k : Role) : roleOf (roleSem k) = some k := Function.partialInv_left roleSem_inj k
theorem roleOf_bar : roleOf (.reg barS) = some (.inl ()) := roleOf_sem (.inl ())
theorem roleOf_send (r : Fin 31) : roleOf (.dma (sendS r)) = some (.inr (.inl r)) := roleOf_sem (.inr (.inl r))
theorem roleOf_recv (r : Fin 31) : roleOf (.dma (recvS r)) = some (.inr (.inr r)) := roleOf_sem (.inr (.inr r))

/-- The six staging semaphores are none of the exchange's. -/
theorem roleOf_staging (q : DmaSem sig) (h : q.val < 6) : roleOf (.dma q) = none := by
  cases hr : roleOf (.dma q) with
  | none => rfl
  | some k =>
    have hk : roleSem k = .dma q := (Function.partialInv_of_injective roleSem_inj k _).mp hr
    rcases k with u | r | r
    · cases hk
    · have := congrArg Fin.val (SemLoc.dma.inj hk); rw [sendS_val] at this; omega
    · have := congrArg Fin.val (SemLoc.dma.inj hk); rw [recvS_val] at this; omega

abbrev cellAt (c : Dev nD) (k : Role) : GSem nD τ sig := ((c : Thread nD τ), roleSem k)
abbrev barCell (c : Dev nD) : GSem nD τ sig := ((c : Thread nD τ), .reg barS)
abbrev sendCell (c : Dev nD) (r : Fin 31) : GSem nD τ sig := ((c : Thread nD τ), .dma (sendS r))
abbrev recvCell (c : Dev nD) (r : Fin 31) : GSem nD τ sig := ((c : Thread nD τ), .dma (recvS r))

/-- What one block's transfer counts for. -/
abbrev N : ℕ := (vIn 0).view.dmaCredit
theorem N_pos : 0 < N := View.dmaCredit_pos _ (by decide)

/-! ## The contents -/

/-- What a device's staging buffers hold while the body runs. -/
def xAt (c : Dev nD) : (cc0_stg0_0 : Ref sig .tc).ty.Contents (Elt F) := iblk m c 0 t0_0
def rAt (c : Dev nD) : (cc0_stg1_0 : Ref sig .tc).ty.Contents (Elt F) := iblk m c 1 t0_0
def iAt (c : Dev nD) : (cc0_stg2_0 : Ref sig .tc).ty.Contents (Elt F) := iblk m c 2 t0_0
def eAt (c : Dev nD) : (cc0_stg3_0 : Ref sig .tc).ty.Contents (Elt F) := iblk m c 3 t0_0
def sAt (c : Dev nD) : (cc0_stg4_0 : Ref sig .tc).ty.Contents (Elt F) := iblk m c 4 t0_0

abbrev rE₀ : Rect S2x256x512 := Rect.unit (s := S2x256x512) ![0, 0, 0] S1x256x512.size inb_S2x256x512_S1x256x512_0_0_0
abbrev rE₁ : Rect S2x256x512 := Rect.unit (s := S2x256x512) ![1, 0, 0] S1x256x512.size inb_S2x256x512_S1x256x512_1_0_0

/-- Device `c`'s contributions. -/
def contribAt (c : Dev nD) : FVec F S512x512 .bf16 :=
  contribOf c (xAt m c) (rAt m c) (iAt m c) ((View.slice (View.whole cc0_stg3_0) rE₀).read (Elt F) (eAt m c))
    ((View.slice (View.whole cc0_stg3_0) rE₁).read (Elt F) (eAt m c))

/-- Device `c`'s landing buffer at the end. -/
def landedAt (c : Dev nD) : FVec F S512x512 .bf16 := landedOf (contribAt m) c

/-- The product with the shared matrix, on the device's own sixteen rows. -/
def sharedAt (c : Dev nD) : FVec F S16x512 .f32 :=
  k0_pay10 ((View.slice (View.whole cc0_stg0_0) (Rect.unit (s := S512x256) (k0_off4 c) S16x256.size (k0_off4_inb c))).read (Elt F) (xAt m c)) (sAt m c)

/-- A block of landed rows as loaded. -/
def rowsAt (c : Dev nD) (j : Fin 32) : Vec F S16x512 .bf16 := (View.slice (View.whole cc0_scratch1) (rowR j)).read (Elt F) (landedAt m c)

/-- The kernel's result on device `c`. -/
def outAt (c : Dev nD) : (cc0_stg5_0 : Ref sig .tc).ty.Contents (Elt F) := allJ.foldl (fun acc j => accum acc (rowsAt m c j)) (sharedAt m c)

/-! ## The blocks held -/

/-- The same blocks as element sets of device `c`'s scratch buffers. -/
def cSet (c j : Dev nD) : Finset (Idx ((c : Thread nD τ).loc cc0_scratch0)) := rows j
def vSet (c j : Dev nD) : Finset (Idx ((c : Thread nD τ).loc cc0_scratch1)) := rows j

theorem cSet_cover (c : Dev nD) : Finset.univ.biUnion (cSet c) = Finset.univ := by
  ext i; simp only [Finset.mem_biUnion, Finset.mem_univ, true_and, iff_true]; exact rows_cover i
theorem vSet_cover (c : Dev nD) : Finset.univ.biUnion (vSet c) = Finset.univ := by
  ext i; simp only [Finset.mem_biUnion, Finset.mem_univ, true_and, iff_true]; exact rows_cover i

/-- Block `j` of device `c`'s contributions, at contents `f`; -/
def cBlk (c j : Dev nD) (f : Buf (Elt F) ((c : Thread nD τ).loc cc0_scratch0)) : sProp 𝕄 :=
  ((c : Thread nD τ).loc cc0_scratch0) ↦[cSet c j]{fullShare} f
/-- block `j` of device `c`'s landing buffer, at contents `f`. -/
def vBlk (c j : Dev nD) (f : Buf (Elt F) ((c : Thread nD τ).loc cc0_scratch1)) : sProp 𝕄 :=
  ((c : Thread nD τ).loc cc0_scratch1) ↦[vSet c j]{fullShare} f

instance cBlk_storable (c j : Dev nD) (f) : BI.Storable (upEmb : UEmb _ 𝕄) (cBlk (F := F) c j f) := by unfold cBlk; infer_instance
instance vBlk_storable (c j : Dev nD) (f) : BI.Storable (upEmb : UEmb _ 𝕄) (vBlk (F := F) c j f) := by unfold vBlk; infer_instance

theorem cWhole_eq (c : Dev nD) (f : Buf (Elt F) ((c : Thread nD τ).loc cc0_scratch0)) :
    (((c : Thread nD τ).loc cc0_scratch0) ↦{fullShare} f : sProp 𝕄) = bigSep Finset.univ fun j => cBlk c j f :=
  Ring.pointsTo_blocks (cSet c) rows_disjoint (cSet_cover c) f
theorem vWhole_eq (c : Dev nD) (f : Buf (Elt F) ((c : Thread nD τ).loc cc0_scratch1)) :
    (((c : Thread nD τ).loc cc0_scratch1) ↦{fullShare} f : sProp 𝕄) = bigSep Finset.univ fun j => vBlk c j f :=
  Ring.pointsTo_blocks (vSet c) rows_disjoint (vSet_cover c) f

/-! ## The schedule -/

/-- Raising `c`'s barrier under the name `r`, `peer c r` hands over its landing rows for `c`; -/
def barPay (c : Dev nD) (r : Fin 31) : sProp 𝕄 := iprop(∃ f, vBlk (peer c r) c f)
/-- a departure gives the source rows back; -/
def sendPay (c : Dev nD) (r : Fin 31) : sProp 𝕄 := cBlk c (peer c r) (contribAt m c)
/-- a landing gives the rows filled. -/
def recvPay (c : Dev nD) (r : Fin 31) : sProp 𝕄 := vBlk c (peer c r.rev) (landedAt m c)

def payOf (c : Dev nD) (d : Fin 31) : Option Role → sProp 𝕄
  | some (.inl _) => barPay c d
  | some (.inr (.inl r)) => sendPay m c r
  | some (.inr (.inr r)) => recvPay m c r
  | none => iprop(emp)

def dutiesOf : Option Role → Finset (Fin 31)
  | some (.inl _) => Finset.univ
  | some (.inr _) => {0}
  | none => ∅

def amountOf : Option Role → ℕ
  | some (.inr _) => N
  | _ => 1

/-- Every cell's schedule is one round. -/
def sched : Rounds.Schedule (GSem nD τ sig) (Fin 31) 𝕄 where
  duties g n := if n = 0 then dutiesOf (roleOf g.2) else ∅
  unitless _ := False
  amount g _ _ := amountOf (roleOf g.2)
  payload g _ d := payOf m g.1.1 d (roleOf g.2)
  amount_pos g _ _ _ := by
    unfold amountOf; split
    · exact N_pos
    · exact Nat.one_pos

instance sched_storable (g : GSem nD τ sig) (n : ℕ) (d : Fin 31) : BI.Storable (upEmb : UEmb _ 𝕄) ((sched (F := F) m).payload g n d) := by
  show BI.Storable upEmb (payOf m g.1.1 d (roleOf g.2))
  unfold payOf barPay sendPay recvPay
  split <;> infer_instance

section Sched
variable (c : Dev nD) (r d : Fin 31)

theorem duties_bar : (sched (F := F) m).duties (barCell c) 0 = Finset.univ := by
  show (if (0 : ℕ) = 0 then dutiesOf (roleOf (.reg barS)) else ∅) = _; rw [roleOf_bar]; rfl
theorem duties_send : (sched (F := F) m).duties (sendCell c r) 0 = {0} := by
  show (if (0 : ℕ) = 0 then dutiesOf (roleOf (.dma (sendS r))) else ∅) = _; rw [roleOf_send]; rfl
theorem duties_recv : (sched (F := F) m).duties (recvCell c r) 0 = {0} := by
  show (if (0 : ℕ) = 0 then dutiesOf (roleOf (.dma (recvS r))) else ∅) = _; rw [roleOf_recv]; rfl
theorem duties_later (g : GSem nD τ sig) : ∀ n, 1 ≤ n → (sched (F := F) m).duties g n = ∅ :=
  fun n hn => if_neg (by omega)

theorem amount_bar : (sched (F := F) m).amount (barCell c) 0 d = 1 := by
  show amountOf (roleOf (.reg barS)) = _; rw [roleOf_bar]; rfl
theorem amount_send : (sched (F := F) m).amount (sendCell c r) 0 d = N := by
  show amountOf (roleOf (.dma (sendS r))) = _; rw [roleOf_send]; rfl
theorem amount_recv : (sched (F := F) m).amount (recvCell c r) 0 d = N := by
  show amountOf (roleOf (.dma (recvS r))) = _; rw [roleOf_recv]; rfl

theorem pay_bar : (sched (F := F) m).payload (barCell c) 0 d = barPay c d := by
  show payOf m c d (roleOf (.reg barS)) = _; rw [roleOf_bar]; rfl
theorem pay_send : (sched (F := F) m).payload (sendCell c r) 0 d = sendPay m c r := by
  show payOf m c d (roleOf (.dma (sendS r))) = _; rw [roleOf_send]; rfl
theorem pay_recv : (sched (F := F) m).payload (recvCell c r) 0 d = recvPay m c r := by
  show payOf m c d (roleOf (.dma (recvS r))) = _; rw [roleOf_recv]; rfl

theorem expect_bar : (sched (F := F) m).expect (barCell c) 0 = 31 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c r) 0 = N := by
  unfold Schedule.expect Schedule.amountOf; rw [duties_send, Finset.sum_singleton, amount_send]
theorem expect_recv : (sched (F := F) m).expect (recvCell c r) 0 = N := by
  unfold Schedule.expect Schedule.amountOf; rw [duties_recv, Finset.sum_singleton, amount_recv]

theorem rest_bar : bigSep ((sched (F := F) m).duties (barCell c) 0 \ ∅) (fun d => (sched (F := F) m).payload (barCell c) 0 d)
    = bigSep Finset.univ (barPay c) := by
  rw [Finset.sdiff_empty, duties_bar]; exact bigSep_congr fun d _ => pay_bar m c d
theorem rest_send : bigSep ((sched (F := F) m).duties (sendCell c r) 0 \ ∅) (fun d => (sched (F := F) m).payload (sendCell c r) 0 d) = sendPay m c r := by
  rw [Finset.sdiff_empty, duties_send, bigSep_singleton, pay_send]
theorem rest_recv : bigSep ((sched (F := F) m).duties (recvCell c r) 0 \ ∅) (fun d => (sched (F := F) m).payload (recvCell c r) 0 d) = recvPay m c r := by
  rw [Finset.sdiff_empty, duties_recv, bigSep_singleton, pay_recv]

end Sched

/-! ## What a device owes, and the levels -/

/-- The credit device `c` owes for its copies in `l`: each its peer's receiver semaphore; -/
def owedCopies (c : Dev nD) (l : List (Fin 31)) : CellTallies nD τ sig Unit := (l.map fun r => tallyAt (recvCell (peer c r) r) () N).sum
/-- for its signals in `l`: each its peer's barrier a unit. -/
def owedSignals (c : Dev nD) (l : List (Fin 31)) : CellTallies nD τ sig Unit := (l.map fun r => tallyAt (barCell (peer c r)) () 1).sum
/-- What it owes when the kernel starts. -/
def O₀ (c : Dev nD) : CellTallies nD τ sig Unit := owedCopies c allR + owedSignals c allR

theorem owedCopies_cons (c : Dev nD) (r : Fin 31) (l : List (Fin 31)) :
    owedCopies c (r :: l) = owedCopies c l + tallyAt (recvCell (peer c r) r) () N := by
  unfold owedCopies; rw [List.map_cons, List.sum_cons, add_comm]
theorem owedSignals_cons (c : Dev nD) (r : Fin 31) (l : List (Fin 31)) :
    owedSignals c (r :: l) = owedSignals c l + tallyAt (barCell (peer c r)) () 1 := by
  unfold owedSignals; rw [List.map_cons, List.sum_cons, add_comm]

theorem owedCopies_pos {c : Dev nD} {l : List (Fin 31)} {g : GSem nD τ sig} {u : Unit} (h : 0 < owedCopies c l g u) :
    ∃ r, g = recvCell (peer c r) r := by
  induction l with
  | nil => exact absurd h (Nat.lt_irrefl 0)
  | cons r l ih =>
    rw [owedCopies_cons, Pi.add_apply, Finsupp.add_apply, tallyAt_apply] at h
    by_cases hg : g = recvCell (peer c r) r ∧ u = ()
    · exact ⟨r, hg.1⟩
    · rw [if_neg hg, Nat.add_zero] at h; exact ih h
theorem owedSignals_pos {c : Dev nD} {l : List (Fin 31)} {g : GSem nD τ sig} {u : Unit} (h : 0 < owedSignals c l g u) :
    ∃ r, g = barCell (peer c r) := by
  induction l with
  | nil => exact absurd h (Nat.lt_irrefl 0)
  | cons r l ih =>
    rw [owedSignals_cons, Pi.add_apply, Finsupp.add_apply, tallyAt_apply] at h
    by_cases hg : g = barCell (peer c r) ∧ u = ()
    · exact ⟨r, hg.1⟩
    · rw [if_neg hg, Nat.add_zero] at h; exact ih h

theorem O₀_pos {c : Dev nD} {g : GSem nD τ sig} {u : Unit} (h : 0 < O₀ c g u) :
    (∃ r, g = recvCell (peer c r) r) ∨ ∃ r, g = barCell (peer c r) := by
  unfold O₀ at h
  rw [Pi.add_apply, Finsupp.add_apply] at h
  rcases Nat.eq_zero_or_pos (owedCopies c allR g u) with h0 | h1
  · rw [h0, Nat.zero_add] at h; exact Or.inr (owedSignals_pos h)
  · exact Or.inl (owedCopies_pos h1)

def L (g : GSem nD τ sig) : Finset Unit := if g.1.2 = .tc then {()} else ∅
theorem L_off (g : GSem nD τ sig) (h : g.1.2 ≠ .tc) : L g = ∅ := if_neg h
theorem mem_L (c : Dev nD) (s : SemLoc sig) : () ∈ L ((c : Thread nD τ), s) := by
  unfold L; rw [if_pos rfl]; exact Finset.mem_singleton_self _

def levelOf : Option Role → ℕ
  | some (.inl _) => 1
  | some (.inr (.inr _)) => 2
  | _ => 0
/-- The barriers are waited for before the receiver semaphores, everything else before both. -/
def lv (g : GSem nD τ sig) (_ : Unit) : ℕ := levelOf (roleOf g.2)

theorem lv_bar (c : Dev nD) : lv (barCell c) () = 1 := by show levelOf (roleOf (.reg barS)) = _; rw [roleOf_bar]; rfl
theorem lv_recv (c : Dev nD) (r : Fin 31) : lv (recvCell c r) () = 2 := by show levelOf (roleOf (.dma (recvS r))) = _; rw [roleOf_recv]; rfl

theorem mayWait_staging (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L c _)
      (fun g u hg => by rcases O₀_pos hg with ⟨r, rfl⟩ | ⟨r, rfl⟩ <;> exact mem_L _ _)
      (fun p hp => by rw [Finset.mem_singleton.mp hp]; show levelOf (roleOf (.dma q)) ≤ 0; rw [roleOf_staging q hq]; exact Nat.le_refl 0)
      (fun g u hg => by
        rcases O₀_pos hg with ⟨r, rfl⟩ | ⟨r, rfl⟩
        · rw [lv_recv]; decide
        · rw [lv_bar]; decide)
  · rw [MayWait_zero]; iintro -; iempintro

/-- At its barrier a device owes receiver credit only. -/
theorem mayWait_bar (c : Dev nD) : (levAts L lv : sProp 𝕄) ⊢ MayWait (c : Thread nD τ) (.reg barS) () (owedCopies c allR) :=
  MayOwe.of_cut (L := L) (lev := lv) 1 (fun p hp => by rw [Finset.mem_singleton.mp hp]; exact mem_L c _)
    (fun g u hg => by obtain ⟨r, rfl⟩ := owedCopies_pos hg; exact mem_L _ _)
    (fun p hp => by rw [Finset.mem_singleton.mp hp]; exact Nat.le_of_eq (lv_bar c))
    (fun g u hg => by obtain ⟨r, rfl⟩ := owedCopies_pos hg; rw [lv_recv]; decide)

end Cert.Moe

end
-- ==== Proof.Phases.lean ====
/-
  Each stretch of the body proved once: one step, then the list by induction.
-/
module

public import proofs.«01_k».proof.Proof.Protocol
public import Idealize.ShloMosaic.Lib.Pipeline.BigSepL

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- A device's run of a piece of the body, to a postcondition. -/
abbrev runs (c : Dev nD) (p : Pr F) (Q : PUnit → sProp 𝕄) : sProp 𝕄 := wp frame (wpE (defs₀ (F := F)) 𝒱₀ (c : Thread nD τ) none) Set.univ p Q

/-! ## The shared records -/

/-- Every semaphore of the exchange is under its schedule, and open. -/
def records (K : Dev nD × Role → ℕ) : sProp 𝕄 :=
  iprop((bigSep Finset.univ fun x : Dev nD × Role => cellInv EX (sched m) (K x) (cellAt x.1 x.2))
    ∗ bigSep Finset.univ fun x : Dev nD × Role => reached EX (cellAt x.1 x.2) 0)

instance records_persistent (K : Dev nD × Role → ℕ) : BI.Persistent (records m K) := by unfold records; infer_instance

theorem inv_of (K : Dev nD × Role → ℕ) (c : Dev nD) (k : Role) : records m K ⊢ cellInv EX (sched m) (K (c, k)) (cellAt c k) := by
  unfold records
  iintro ⟨#H, -⟩
  have h : (bigSep Finset.univ fun x : Dev nD × Role => (cellInv EX (sched m) (K x) (cellAt x.1 x.2) : sProp 𝕄)) ⊢ cellInv EX (sched m) (K (c, k)) (cellAt c k) := bigSep_elim (Finset.mem_univ (c, k))
  iapply h; iexact H
theorem open_of (K : Dev nD × Role → ℕ) (c : Dev nD) (k : Role) : records m K ⊢ reached EX (cellAt c k) 0 := by
  unfold records
  iintro ⟨-, #H⟩
  have h : (bigSep Finset.univ fun x : Dev nD × Role => (reached EX (cellAt x.1 x.2) 0 : sProp 𝕄)) ⊢ reached EX (cellAt c k) 0 := bigSep_elim (Finset.mem_univ (c, k))
  iapply h; iexact H

section Phases

variable (K : Dev nD × Role → ℕ) (c : Dev nD) (k : Pr F)

/-! ## The signals -/

/-- What a signal to `peer c r` spends: the right to raise its barrier under the name that says who raises it, and the
    landing rows for it. -/
def signalDue (r : Fin 31) : sProp 𝕄 := iprop(dutyTok EX (barCell (peer c r)) 0 r.rev ∗ ∃ f, vBlk c (peer c r) f)

theorem wp_signals (Q : PUnit → sProp 𝕄) (O : CellTallies nD τ sig Unit) (W : Waits sig Unit) : ∀ l : List (Fin 31),
    iprop(records m K ∗ owes (c : Thread nD τ) (O + owedSignals c l) W ∗ bigSepL l (signalDue (F := F) c))
      ⊢ iprop((owes (c : Thread nD τ) O W -∗ runs c k Q) -∗ runs c (signals c l k) Q)
  | [] => by
    iintro ⟨-, HO, -⟩ Hk
    iapply Hk
    rw [show owedSignals c [] = 0 from rfl, add_zero]
    iexact HO
  | r :: l => by
    have ih := wp_signals Q O W l
    rw [bigSepL_cons', owedSignals_cons, ← add_assoc]
    show _ ⊢ iprop(_ -∗ runs c (.op (.semSignal ((peer c r : Dev nD), .tc) barS ((1 : ℕ) : Int)) fun _ => signals c l k) Q)
    unfold signalDue
    iintro ⟨#HR, HO, ⟨Ht, Hv⟩, Hl⟩ Hk
    iapply (Rounds.wp_signal 𝒱₀ EX (sched m) (c : Thread nD τ) none (dst := (peer c r : Thread nD τ)) (κ := K (peer c r, .inl ()))
        (d := r.rev) (by rw [duties_bar]; exact Finset.mem_univ _) (amount_bar m (peer c r) r.rev) () (O + owedSignals c l) rfl)
      $$ [HO Ht Hv]
    · isplitr; · iapply (inv_of m K (peer c r) (.inl ())); iexact HR
      isplitl [HO]; · iexact HO
      isplitl [Ht]; · iexact Ht
      isplitl [Hv]
      · rw [pay_bar]; unfold barPay; rw [peer_rev]; iexact Hv
      · iapply (open_of m K (peer c r) (.inl ())); iexact HR
    iintro HO
    iapply ih $$ [HO Hl]
    · isplitr; · iexact HR
      isplitl [HO]; · iexact HO
      unfold signalDue; iexact Hl
    iexact Hk

/-! ## The copies -/

/-- What a copy to `peer c r` spends: the rights to raise its two semaphores, its source rows and its landing rows. -/
def sendDue (r : Fin 31) : sProp 𝕄 :=
  iprop(dutyTok EX (sendCell c r) 0 0 ∗ dutyTok EX (recvCell (peer c r) r) 0 0 ∗ cBlk c (peer c r) (contribAt m c) ∗ ∃ f, vBlk (peer c r) c f)

theorem cBlk_view (r : Fin 31) (f : Buf (Elt F) ((c : Thread nD τ).loc cc0_scratch0)) :
    cBlk c (peer c r) f = ((cOut c r).view.loc (c : Thread nD τ) ↦[(cOut c r).view.set]{fullShare} f : sProp 𝕄) := by
  unfold cBlk cSet; rw [← out_set c r]
theorem vBlk_view (d : Dev nD) (f : Buf (Elt F) ((d : Thread nD τ).loc cc0_scratch1)) :
    vBlk d c f = ((vIn c).view.loc (d : Thread nD τ) ↦[(vIn c).view.set]{fullShare} f : sProp 𝕄) := by
  unfold vBlk vSet; rw [← in_set c]

/-- What the copy leaves at its peer is what the peer's landing buffer holds in the end. -/
theorem copied (r : Fin 31) (f : Buf (Elt F) ((peer c r : Thread nD τ).loc cc0_scratch1)) :
    (((vIn c).view.loc (peer c r : Thread nD τ) ↦[(vIn c).view.set]{fullShare}
        ((vIn c).view.write (Elt F) f ((cOut c r).view.read (Elt F) (contribAt m c)) Finset.univ)) : sProp 𝕄)
      = vBlk (peer c r) c (landedAt m (peer c r)) := by
  rw [vBlk_view]
  refine pointsTo_congr fun i hi => ?_
  rw [in_set] at hi
  exact landed_at (contribAt m) c (peer c r) (k0_off1_eq c) (off_out c r) f i hi

theorem wp_copy (Q : PUnit → sProp 𝕄) (r : Fin 31) (l : List (Fin 31)) (W : Waits sig Unit)
    {hsrc : (cOut c r).view.WordExact} {hdst : (vIn c).view.WordExact}
    {hsem : DmaTarget.Typed .vmem (.dma (recvS r)) (.remote (Dev.tc (peer c r) : Thread nD τ) (vIn c) (.dma (sendS r)) rfl)} :
    iprop(records m K ∗ owes (c : Thread nD τ) (owedCopies c (r :: l)) W ∗ sendDue m c r)
      ⊢ iprop(((cred (tallyAt (sendCell c r) () N) ∗ owes (c : Thread nD τ) (owedCopies c l) W) -∗ runs c k Q)
          -∗ runs c (.op (.enqueueDma (cOut c r) (.remote (Dev.tc (peer c r)) (vIn c) (.dma (sendS r)) rfl) (.dma (recvS r)) hsrc hdst hsem) fun _ => k) Q) := by
  rw [owedCopies_cons]
  unfold sendDue
  simp only [cBlk_view, vBlk_view]
  iintro ⟨#HR, HO, Hts, Htr, Hc, ⟨%f, Hv⟩⟩ Hk
  iapply (Rounds.wp_send_pointsTo 𝒱₀ EX (sched m) (c : Thread nD τ) none (κ₁ := K (c, .inr (.inl r))) (κ₂ := K (peer c r, .inr (.inr r)))
    (r₁ := 0) (r₂ := 0) (d₁ := 0) (d₂ := 0) (fs := contribAt m c) (fd := f)
    (by rw [duties_send]; exact Finset.mem_singleton_self _) (by rw [duties_recv]; exact Finset.mem_singleton_self _)
    () () N (by rw [View.amount_dma]) (amount_send m c r 0) (amount_recv m (peer c r) r 0) (owedCopies c l) rfl (W := W)
    (by rw [pay_send]; unfold sendPay; rw [cBlk_view])
    (by rw [pay_recv]; unfold recvPay; rw [peer_rev, copied])) $$ [HO Hts Htr Hc Hv]
  · isplitr; · iapply (inv_of m K c (.inr (.inl r))); iexact HR
    isplitr; · iapply (inv_of m K (peer c r) (.inr (.inr r))); iexact HR
    isplitl [Hc]; · iexact Hc
    isplitl [Hv]; · iexact Hv
    isplitl [HO]; · iexact HO
    isplitl [Hts]; · iexact Hts
    isplitr; · iapply (open_of m K c (.inr (.inl r))); iexact HR
    isplitl [Htr]; · iexact Htr
    iapply (open_of m K (peer c r) (.inr (.inr r))); iexact HR
  iexact Hk

/-- What a copy brings: the credit of its departure. -/
def sentCred (r : Fin 31) : sProp 𝕄 := cred (tallyAt (sendCell c r) () N)

theorem wp_sends (Q : PUnit → sProp 𝕄) (W : Waits sig Unit) : ∀ l : List (Fin 31),
    iprop(records m K ∗ owes (c : Thread nD τ) (owedCopies c l) W ∗ bigSepL l (sendDue m c))
      ⊢ iprop(((owes (c : Thread nD τ) 0 W ∗ bigSepL l (sentCred (F := F) c)) -∗ runs c k Q) -∗ runs c (sends c l k) Q)
  | [] => by
    iintro ⟨-, HO, -⟩ Hk
    iapply Hk
    isplitl; · iexact HO
    rw [bigSepL_nil]; iempintro
  | r :: l => by
    have ih := wp_sends Q W l
    rw [bigSepL_cons', bigSepL_cons']
    iintro ⟨#HR, HO, Hr, Hl⟩ Hk
    iapply (wp_copy m K c (sends c l k) Q r l W) $$ [HO Hr]
    · isplitr; · iexact HR
      isplitl [HO]; · iexact HO
      iexact Hr
    iintro ⟨Hs, HO⟩
    iapply ih $$ [HO Hl]
    · isplitr; · iexact HR
      isplitl [HO]; · iexact HO
      iexact Hl
    iintro ⟨HO, Hl⟩
    iapply Hk
    isplitl [HO]; · iexact HO
    isplitl [Hs]; · (unfold sentCred; iexact Hs)
    iexact Hl

/-! ## The waits -/

/-- What awaiting a landing spends, -/
def recvDue (r : Fin 31) : sProp 𝕄 := iprop(cred (tallyAt (recvCell c r) () N) ∗ atPos EX (recvCell c r) 0 ∅ 0)
/-- and brings: the filled rows, and the semaphore at rest. -/
def recvGot (r : Fin 31) : sProp 𝕄 := iprop(recvPay m c r ∗ semVal (recvCell c r) 0)
/-- What awaiting a departure spends, -/
def sendOwn (r : Fin 31) : sProp 𝕄 := iprop(sentCred c r ∗ atPos EX (sendCell c r) 0 ∅ 0)
/-- and brings: the source rows, and the semaphore at rest. -/
def sendGot (r : Fin 31) : sProp 𝕄 := iprop(sendPay m c r ∗ semVal (sendCell c r) 0)

theorem wp_recvWaits (Q : PUnit → sProp 𝕄) : ∀ (l : List (Fin 31)) (W : Waits sig Unit),
    iprop(records m K ∗ owes (c : Thread nD τ) 0 W ∗ bigSepL l (recvDue (F := F) c))
      ⊢ iprop((((∃ W', owes (c : Thread nD τ) 0 W') ∗ bigSepL l (recvGot m c)) -∗ runs c k Q) -∗ runs c (recvWaits c l k) Q)
  | [], W => by
    iintro ⟨-, HO, -⟩ Hk
    iapply Hk
    isplitl; · (iexists W; iexact HO)
    rw [bigSepL_nil]; iempintro
  | r :: l, W => by
    have ih := wp_recvWaits Q l (insert (SemLoc.dma (recvS r), ()) W)
    rw [bigSepL_cons', bigSepL_cons']
    show _ ⊢ iprop(_ -∗ runs c (.op (.waitDma2 (recvS r) (cOut c r) (vIn c) _ _) fun _ => recvWaits c l k) Q)
    iintro ⟨#HR, HO, Hr, Hl⟩ Hk
    unfold recvDue
    icases Hr with ⟨Hc, Ha⟩
    iapply (Rounds.wp_wait_rest_token 𝒱₀ EX (sched m) (c : Thread nD τ) none (κ := K (c, .inr (.inr r)))
        (wpE_waitDma2_eq 𝒱₀ (c : Thread nD τ) none Set.univ) (Set.mem_univ _) () (O := 0) (W := W) (R := 0) (m := 0) (T := ∅)
        (by rw [Nat.zero_add, expect_recv])) $$ [HO Hc Ha]
    · isplitr; · iapply (inv_of m K c (.inr (.inr r))); iexact HR
      isplitl [Hc]; · iexact Hc
      isplitl [HO]; · iexact HO
      isplitr; · rw [MayWait_zero]; iempintro
      iexact Ha
    iintro ⟨HO, Ha, -, Hp⟩
    imod (Rounds.cell_close EX (sched m) (Set.mem_univ (K (c, .inr (.inr r)))) (fun h => h) (R := 0 + 1) (duties_later m (recvCell c r))) $$ [Ha] with Hz
    · isplitr; · iapply (inv_of m K c (.inr (.inr r))); iexact HR
      iexact Ha
    iapply ih $$ [HO Hl]
    · isplitr; · iexact HR
      isplitl [HO]; · iexact HO
      unfold recvDue; iexact Hl
    iintro ⟨HO, Hl⟩
    iapply Hk
    isplitl [HO]; · iexact HO
    isplitl [Hp Hz]
    · unfold recvGot
      isplitl [Hp]
      · iapply (Entails.of_eq (rest_recv m c r)); iexact Hp
      · iexact Hz
    iexact Hl

theorem wp_sendWaits (Q : PUnit → sProp 𝕄) : ∀ (l : List (Fin 31)) (W : Waits sig Unit),
    iprop(records m K ∗ owes (c : Thread nD τ) 0 W ∗ bigSepL l (sendOwn (F := F) c))
      ⊢ iprop((((∃ W', owes (c : Thread nD τ) 0 W') ∗ bigSepL l (sendGot m c)) -∗ runs c k Q) -∗ runs c (sendWaits c l k) Q)
  | [], W => by
    iintro ⟨-, HO, -⟩ Hk
    iapply Hk
    isplitl; · (iexists W; iexact HO)
    rw [bigSepL_nil]; iempintro
  | r :: l, W => by
    have ih := wp_sendWaits Q l (insert (SemLoc.dma (sendS r), ()) W)
    rw [bigSepL_cons', bigSepL_cons']
    show _ ⊢ iprop(_ -∗ runs c (.op (.waitDma2 (sendS r) (vIn c) (cOut c r) _ _) fun _ => sendWaits c l k) Q)
    iintro ⟨#HR, HO, Hr, Hl⟩ Hk
    unfold sendOwn sentCred
    icases Hr with ⟨Hc, Ha⟩
    iapply (Rounds.wp_wait_rest_token 𝒱₀ EX (sched m) (c : Thread nD τ) none (κ := K (c, .inr (.inl r)))
        (wpE_waitDma2_eq 𝒱₀ (c : Thread nD τ) none Set.univ) (Set.mem_univ _) () (O := 0) (W := W) (R := 0) (m := 0) (T := ∅)
        (by rw [Nat.zero_add, expect_send])) $$ [HO Hc Ha]
    · isplitr; · iapply (inv_of m K c (.inr (.inl r))); iexact HR
      isplitl [Hc]; · iexact Hc
      isplitl [HO]; · iexact HO
      isplitr; · rw [MayWait_zero]; iempintro
      iexact Ha
    iintro ⟨HO, Ha, -, Hp⟩
    imod (Rounds.cell_close EX (sched m) (Set.mem_univ (K (c, .inr (.inl r)))) (fun h => h) (R := 0 + 1) (duties_later m (sendCell c r))) $$ [Ha] with Hz
    · isplitr; · iapply (inv_of m K c (.inr (.inl r))); iexact HR
      iexact Ha
    iapply ih $$ [HO Hl]
    · isplitr; · iexact HR
      isplitl [HO]; · iexact HO
      unfold sendOwn sentCred; iexact Hl
    iintro ⟨HO, Hl⟩
    iapply Hk
    isplitl [HO]; · iexact HO
    isplitl [Hp Hz]
    · unfold sendGot
      isplitl [Hp]
      · iapply (Entails.of_eq (rest_send m c r)); iexact Hp
      · iexact Hz
    iexact Hl

/-! ## The sum of the landed rows -/

/-- The whole landing buffer. -/
def vAll (f : Buf (Elt F) ((c : Thread nD τ).loc cc0_scratch1)) : sProp 𝕄 := ((c : Thread nD τ).loc cc0_scratch1) ↦{fullShare} f

theorem wp_row (Q : PUnit → sProp 𝕄) (f : Buf (Elt F) ((c : Thread nD τ).loc cc0_scratch1)) (j : Fin 32)
    (kk : ((rowR j).shape.Idx → Elt F .bf16) → Pr F)
    {h : vM.view.LoadsAt (rowR j).toLoadRect} :
    vAll c f ⊢ iprop((vAll c f -∗ runs c (kk ((View.slice (View.whole cc0_scratch1) (rowR j)).read (Elt F) f)) Q)
      -∗ runs c (.op (.load vM (rowR j).toLoadRect h) kk) Q) :=
  wp_load_rect 𝒱₀ (c : Thread nD τ) none Set.univ (m := vM) (r := rowR j) (S := Finset.univ) (Finset.subset_univ _)

theorem wp_sumRows (Q : PUnit → sProp 𝕄) (kk : FVec F S16x512 .f32 → Pr F) (l : List (Fin 32)) : ∀ acc : FVec F S16x512 .f32,
    vAll c (landedAt m c) ⊢ iprop((vAll c (landedAt m c) -∗ runs c (kk (l.foldl (fun a j => accum a (rowsAt m c j)) acc)) Q)
          -∗ runs c (sumRows l acc kk) Q) := by
  induction l with
  | nil =>
    intro acc
    iintro H Hk
    iapply Hk; iexact H
  | cons j l ih =>
    intro acc
    rw [sumRows, List.foldl_cons]
    iintro H Hk
    iapply (wp_row c Q (landedAt m c) j) $$ H
    iintro H
    iapply (ih (accum acc (rowsAt m c j))) $$ H
    iexact Hk

end Phases

end Cert.Moe

end
-- ==== Proof.Body.lean ====
/-
  The whole body of one device: from its staged inputs and its share of the protocol, to its result and every one of
  its semaphores at rest.
-/
module

public import proofs.«01_k».proof.Proof.Phases
public import Idealize.ShloMosaic.Lib.Pipeline.Value

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Whole buffers -/

/-- Device `c` holds all of the buffer of `M`, at `f`. -/
def holds {s : Shape} {e : EltTy} (c : Dev nD) (M : Memref sig .tc .vmem s e) (f : Buf (Elt F) (M.view.loc (c : Thread nD τ))) : sProp 𝕄 :=
  (M.view.loc (c : Thread nD τ)) ↦{fullShare} f

theorem holds_blocks (c : Dev nD) (f : Buf (Elt F) ((c : Thread nD τ).loc cc0_scratch0)) :
    holds c cM f = iprop(cBlk c c f ∗ bigSep Finset.univ fun r : Fin 31 => cBlk c (peer c r) f) :=
  (cWhole_eq c f).trans (all_split c fun j => cBlk c j f)
theorem lands_blocks (c : Dev nD) (f : Buf (Elt F) ((c : Thread nD τ).loc cc0_scratch1)) :
    holds c vM f = iprop(vBlk c c f ∗ bigSep Finset.univ fun r : Fin 31 => vBlk c (peer c r) f) :=
  (vWhole_eq c f).trans (all_split c fun j => vBlk c j f)

theorem holds_x (c : Dev nD) (f : Buf (Elt F) ((c : Thread nD τ).loc cc0_stg0_0)) :
    (((c : Thread nD τ).loc cc0_stg0_0) ↦{fullShare} f : sProp 𝕄) = holds c xM f := rfl
theorem holds_r (c : Dev nD) (f : Buf (Elt F) ((c : Thread nD τ).loc cc0_stg1_0)) :
    (((c : Thread nD τ).loc cc0_stg1_0) ↦{fullShare} f : sProp 𝕄) = holds c rM f := rfl
theorem holds_i (c : Dev nD) (f : Buf (Elt F) ((c : Thread nD τ).loc cc0_stg2_0)) :
    (((c : Thread nD τ).loc cc0_stg2_0) ↦{fullShare} f : sProp 𝕄) = holds c iM f := rfl
theorem holds_e (c : Dev nD) (f : Buf (Elt F) ((c : Thread nD τ).loc cc0_stg3_0)) :
    (((c : Thread nD τ).loc cc0_stg3_0) ↦{fullShare} f : sProp 𝕄) = holds c eM f := rfl
theorem holds_s (c : Dev nD) (f : Buf (Elt F) ((c : Thread nD τ).loc cc0_stg4_0)) :
    (((c : Thread nD τ).loc cc0_stg4_0) ↦{fullShare} f : sProp 𝕄) = holds c sM f := rfl
theorem holds_o (c : Dev nD) (f : Buf (Elt F) ((c : Thread nD τ).loc cc0_stg5_0)) :
    (((c : Thread nD τ).loc cc0_stg5_0) ↦{fullShare} f : sProp 𝕄) = holds c oM f := rfl
theorem holds_v (c : Dev nD) (f : Buf (Elt F) ((c : Thread nD τ).loc cc0_scratch1)) : vAll c f = (holds c vM f : sProp 𝕄) := rfl

section Steps

variable (c : Dev nD)

variable {s : Shape} {e : EltTy} (M : Memref sig .tc .vmem s e) (f : Buf (Elt F) (M.view.loc (c : Thread nD τ))) (r : Rect s)

/-- A load from a buffer held whole. -/
theorem wp_get (Q : PUnit → sProp 𝕄) (kk : (r.shape.Idx → Elt F e) → Pr F) {h : M.view.LoadsAt r.toLoadRect} :
    holds c M f ⊢ iprop((holds c M f -∗ runs c (kk ((M.access r).read (Elt F) f)) Q) -∗ runs c (.op (.load M r.toLoadRect h) kk) Q) :=
  wp_load_rect 𝒱₀ (c : Thread nD τ) none Set.univ (m := M) (r := r) (S := Finset.univ) (Finset.subset_univ _)

/-- A store to a buffer held whole. -/
theorem wp_put (Q : PUnit → sProp 𝕄) (w : r.shape.Idx → Elt F e) (kk : PUnit → Pr F) {h : (M.access r).Stores Finset.univ}
    {hm : (Finset.univ : Finset r.shape.Idx) = Finset.univ ∨ ∀ a, r.stride a = 1} :
    holds c M f ⊢ iprop((holds c M ((M.access r).write (Elt F) f w Finset.univ) -∗ runs c (kk ⟨⟩) Q)
      -∗ runs c (.op (.store M r w Finset.univ h hm) kk) Q) :=
  wp_store 𝒱₀ (c : Thread nD τ) none Set.univ (m := M) (r := r) (Mk := Finset.univ) (S := Finset.univ) (Finset.subset_univ _)

end Steps

section OwnBlock

variable (c : Dev nD)

abbrev rOwn : Rect S512x512 := Rect.unit (s := S512x512) (k0_off3 c) S16x512.size (k0_off3_inb c)

/-- A device's own block of its contributions, loaded; -/
theorem wp_ownGet (Q : PUnit → sProp 𝕄) (kk : ((rOwn c).shape.Idx → Elt F .bf16) → Pr F) {h : cM.view.LoadsAt (rOwn c).toLoadRect}
    (f : Buf (Elt F) ((c : Thread nD τ).loc cc0_scratch0)) :
    cBlk c c f ⊢ iprop((cBlk c c f -∗ runs c (kk ((View.slice (View.whole cc0_scratch0) (rOwn c)).read (Elt F) f)) Q)
      -∗ runs c (.op (.load cM (rOwn c).toLoadRect h) kk) Q) :=
  wp_load_rect 𝒱₀ (c : Thread nD τ) none Set.univ (m := cM) (r := rOwn c) (S := cSet c c)
    (((View.set_slice_whole cc0_scratch0 _).trans (set_of_off c (k0_off3_eq c))).subset)
/-- its own block of the landing buffer, loaded; -/
theorem wp_ownPeek (Q : PUnit → sProp 𝕄) (kk : ((rOwn c).shape.Idx → Elt F .bf16) → Pr F) {h : vM.view.LoadsAt (rOwn c).toLoadRect}
    (f : Buf (Elt F) ((c : Thread nD τ).loc cc0_scratch1)) :
    vBlk c c f ⊢ iprop((vBlk c c f -∗ runs c (kk ((View.slice (View.whole cc0_scratch1) (rOwn c)).read (Elt F) f)) Q)
      -∗ runs c (.op (.load vM (rOwn c).toLoadRect h) kk) Q) :=
  wp_load_rect 𝒱₀ (c : Thread nD τ) none Set.univ (m := vM) (r := rOwn c) (S := vSet c c)
    (((View.set_slice_whole cc0_scratch1 _).trans (set_of_off c (k0_off3_eq c))).subset)

theorem own_word (v : Vec F S16x512 .bf16) : k0_pay9 v = v := by
  unfold k0_pay9; exact shapeCast_self v _

theorem own_written (f : Buf (Elt F) ((c : Thread nD τ).loc cc0_scratch1)) :
    vBlk c c ((vM.access (rOwn c)).write (Elt F) f (k0_pay9 ((View.slice (View.whole cc0_scratch0) (rOwn c)).read (Elt F) (contribAt m c))) Finset.univ)
      = (vBlk c c (landedAt m c) : sProp 𝕄) := by
  rw [own_word]
  exact pointsTo_congr fun i hi => landed_at (contribAt m) c c (k0_off3_eq c) (k0_off3_eq c) f i hi

/-- and filled from the contributions. -/
theorem wp_ownPut (Q : PUnit → sProp 𝕄) (kk : PUnit → Pr F) {h : (vM.access (rOwn c)).Stores Finset.univ}
    {hm : (Finset.univ : Finset (rOwn c).shape.Idx) = Finset.univ ∨ ∀ a, (rOwn c).stride a = 1} (f : Buf (Elt F) ((c : Thread nD τ).loc cc0_scratch1)) :
    vBlk c c f ⊢ iprop((vBlk c c (landedAt m c) -∗ runs c (kk ⟨⟩) Q)
      -∗ runs c (.op (.store vM (rOwn c) (k0_pay9 ((View.slice (View.whole cc0_scratch0) (rOwn c)).read (Elt F) (contribAt m c))) Finset.univ h hm) kk) Q) := by
  rw [← own_written m c f]
  exact wp_store 𝒱₀ (c : Thread nD τ) none Set.univ (m := vM) (r := rOwn c) (Mk := Finset.univ) (S := vSet c c)
    (by rw [View.setOn_univ]; exact ((View.set_slice_whole cc0_scratch1 _).trans (set_of_off c (k0_off3_eq c))).subset)

end OwnBlock

/-! ## Loads and stores of whole buffers, by value -/

theorem hz : (![0, 0] : Fin 2 → ℕ) = fun _ => 0 := funext fun a => by fin_cases a <;> rfl

abbrev rC : Rect S512x512 := Rect.unit (s := S512x512) ![0, 0] S512x512.size inb_S512x512_S512x512_0_0
abbrev rX : Rect S512x256 := Rect.unit (s := S512x256) ![0, 0] S512x256.size inb_S512x256_S512x256_0_0
abbrev rR : Rect S256x64 := Rect.unit (s := S256x64) ![0, 0] S256x64.size inb_S256x64_S256x64_0_0
abbrev rI : Rect S512x1 := Rect.unit (s := S512x1) ![0, 0] S512x1.size inb_S512x1_S512x1_0_0
abbrev rS : Rect S256x512 := Rect.unit (s := S256x512) ![0, 0] S256x512.size inb_S256x512_S256x512_0_0
abbrev rO : Rect S16x512 := Rect.unit (s := S16x512) ![0, 0] S16x512.size inb_S16x512_S16x512_0_0
abbrev rX4 (c : Dev nD) : Rect S512x256 := Rect.unit (s := S512x256) (k0_off4 c) S16x256.size (k0_off4_inb c)

theorem contrib_written (c : Dev nD) (f : Buf (Elt F) (cM.view.loc (c : Thread nD τ))) :
    (cM.access rC).write (Elt F) f (contribOf c ((xM.access rX).read (Elt F) (xAt m c)) ((rM.access rR).read (Elt F) (rAt m c))
      ((iM.access rI).read (Elt F) (iAt m c)) ((eM.access rE₀).read (Elt F) (eAt m c)) ((eM.access rE₁).read (Elt F) (eAt m c))) Finset.univ
      = contribAt m c := by
  have hx : (xM.access rX).read (Elt F) (xAt m c) = xAt m c := Memref.readAt_unit_zero (Elt F) cc0_stg0_0 hz _ _
  have hr : (rM.access rR).read (Elt F) (rAt m c) = rAt m c := Memref.readAt_unit_zero (Elt F) cc0_stg1_0 hz _ _
  have hi : (iM.access rI).read (Elt F) (iAt m c) = iAt m c := Memref.readAt_unit_zero (Elt F) cc0_stg2_0 hz _ _
  rw [hx, hr, hi]
  exact Memref.write_access_unit_zero_univ (Elt F) cc0_scratch0 hz _ _ _

theorem shared_read (c : Dev nD) :
    k0_pay10 ((xM.access (rX4 c)).read (Elt F) (xAt m c)) ((sM.access rS).read (Elt F) (sAt m c)) = sharedAt m c := by
  have hs : (sM.access rS).read (Elt F) (sAt m c) = sAt m c := Memref.readAt_unit_zero (Elt F) cc0_stg4_0 hz _ _
  rw [hs]; rfl

theorem out_written (c : Dev nD) (f : Buf (Elt F) (oM.view.loc (c : Thread nD τ))) (w : FVec F S16x512 .f32) :
    (oM.access rO).write (Elt F) f w Finset.univ = w :=
  Memref.write_access_unit_zero_univ (Elt F) cc0_stg5_0 hz _ _ _

/-! ## What a device starts from and leaves -/

theorem listed (Φ : Fin 31 → sProp 𝕄) : bigSep Finset.univ Φ = bigSepL allR Φ := bigSep_univ_eq_bigSepL allR (by decide) (by decide) Φ

/-- A device's own part of the protocol: its place at each of its semaphores, and the rights it spends. -/
def linear (c : Dev nD) : sProp 𝕄 :=
  iprop(atPos EX (barCell c) 0 ∅ 0
    ∗ (bigSep Finset.univ fun r : Fin 31 => atPos EX (sendCell c r) 0 ∅ 0)
    ∗ (bigSep Finset.univ fun r : Fin 31 => atPos EX (recvCell c r) 0 ∅ 0)
    ∗ (bigSep Finset.univ fun r : Fin 31 => dutyTok EX (barCell (peer c r)) 0 r.rev)
    ∗ (bigSep Finset.univ fun r : Fin 31 => dutyTok EX (sendCell c r) 0 0)
    ∗ (bigSep Finset.univ fun r : Fin 31 => dutyTok EX (recvCell (peer c r) r) 0 0))

/-- The credits it can count on: its barrier's thirty-one units, each receiver semaphore's block. -/
def credits (c : Dev nD) : sProp 𝕄 :=
  iprop(cred (tallyAt (barCell c) () 31) ∗ (bigSep Finset.univ fun r : Fin 31 => cred (tallyAt (recvCell c r) () N)))

def scratch (c : Dev nD) : sProp 𝕄 := iprop((∃ f, holds c cM f) ∗ ∃ f, holds c vM f)

def start (c : Dev nD) : sProp 𝕄 := iprop((∃ K, records m K ∗ linear c) ∗ credits c ∗ levAts L lv)

def Φ₀ (c : Dev nD) : sProp 𝕄 := iprop(start m c ∗ scratch c)

/-- At the end: the scratch buffers, and every semaphore of the exchange at zero. -/
def Φ₁ (c : Dev nD) : sProp 𝕄 :=
  iprop(scratch c ∗ (bigSep Finset.univ fun r : Fin 31 => semVal (sendCell c r) 0) ∗ (bigSep Finset.univ fun r : Fin 31 => semVal (recvCell c r) 0)
    ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => rAt m c
    | ⟨2, _⟩ => iAt m c
    | ⟨3, _⟩ => eAt m c
    | ⟨4, _⟩ => sAt m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem before_x (c : Dev nD) (d) : (dats m ρ 0 c).before (0 : Fin 6) t0_0 d = xAt m c := by
  unfold Dat.before; rw [if_pos (fetch0_0 t0_0)]; rfl
theorem before_r (c : Dev nD) (d) : (dats m ρ 0 c).before (1 : Fin 6) t0_0 d = rAt m c := by
  unfold Dat.before; rw [if_pos (fetch0_1 t0_0)]; rfl
theorem before_i (c : Dev nD) (d) : (dats m ρ 0 c).before (2 : Fin 6) t0_0 d = iAt m c := by
  unfold Dat.before; rw [if_pos (fetch0_2 t0_0)]; rfl
theorem before_e (c : Dev nD) (d) : (dats m ρ 0 c).before (3 : Fin 6) t0_0 d = eAt m c := by
  unfold Dat.before; rw [if_pos (fetch0_3 t0_0)]; rfl
theorem before_s (c : Dev nD) (d) : (dats m ρ 0 c).before (4 : Fin 6) t0_0 d = sAt m c := by
  unfold Dat.before; rw [if_pos (fetch0_4 t0_0)]; rfl

/-! ## Shares regrouped -/

theorem gather_signals (c : Dev nD) (f : Buf (Elt F) ((c : Thread nD τ).loc cc0_scratch1)) :
    iprop((bigSep Finset.univ fun r : Fin 31 => dutyTok EX (barCell (peer c r)) 0 r.rev) ∗ bigSep Finset.univ fun r : Fin 31 => vBlk c (peer c r) f)
      ⊢ bigSepL allR (signalDue (F := F) c) := by
  have h : ∀ r : Fin 31, iprop(dutyTok EX (barCell (peer c r)) 0 r.rev ∗ vBlk c (peer c r) f) ⊢ signalDue (F := F) c r := fun r => by
    unfold signalDue
    iintro ⟨H1, H2⟩
    isplitl [H1]; · iexact H1
    iexists f; iexact H2
  rw [← listed, ← bigSep_sep']
  exact bigSep_mono fun r _ => h r

theorem gather_sends (c : Dev nD) :
    iprop((bigSep Finset.univ fun r : Fin 31 => dutyTok EX (sendCell c r) 0 0) ∗ (bigSep Finset.univ fun r : Fin 31 => dutyTok EX (recvCell (peer c r) r) 0 0)
        ∗ (bigSep Finset.univ fun r : Fin 31 => cBlk c (peer c r) (contribAt m c)) ∗ bigSep Finset.univ (barPay c))
      ⊢ bigSepL allR (sendDue m c) := by
  rw [← listed, ← bigSep_sep', ← bigSep_sep', ← bigSep_sep']
  exact bigSep_mono fun r _ => by unfold sendDue barPay; exact Entails.refl _

theorem gather_recvs (c : Dev nD) :
    iprop((bigSep Finset.univ fun r : Fin 31 => cred (tallyAt (recvCell c r) () N)) ∗ bigSep Finset.univ fun r : Fin 31 => atPos EX (recvCell c r) 0 ∅ 0)
      ⊢ bigSepL allR (recvDue (F := F) c) := by
  rw [← listed, ← bigSep_sep']
  exact bigSep_mono fun r _ => by unfold recvDue; exact Entails.refl _

theorem gather_owns (c : Dev nD) :
    iprop(bigSepL allR (sentCred (F := F) c) ∗ bigSep Finset.univ fun r : Fin 31 => atPos EX (sendCell c r) 0 ∅ 0)
      ⊢ bigSepL allR (sendOwn (F := F) c) := by
  rw [← listed, ← listed, ← bigSep_sep']
  exact bigSep_mono fun r _ => by unfold sendOwn; exact Entails.refl _

/-- The landed blocks, with the device's own, are the whole landing buffer. -/
theorem all_landed (c : Dev nD) :
    iprop(vBlk c c (landedAt m c) ∗ bigSepL allR (recvGot m c))
      ⊢ iprop(holds c vM (landedAt m c) ∗ bigSep Finset.univ fun r : Fin 31 => semVal (recvCell c r) 0) := by
  rw [← listed, lands_blocks]
  have h : bigSep Finset.univ (recvGot m c)
      = iprop((bigSep Finset.univ fun r : Fin 31 => vBlk c (peer c r) (landedAt m c)) ∗ bigSep Finset.univ fun r : Fin 31 => semVal (recvCell c r) 0) := by
    rw [bigSep_univ_equiv Fin.revPerm fun r : Fin 31 => (vBlk c (peer c r) (landedAt m c) : sProp 𝕄), ← bigSep_sep']
    rfl
  rw [h]
  iintro ⟨H1, H2, H3⟩
  isplitr [H3]
  · isplitl [H1]; · iexact H1
    iexact H2
  iexact H3

/-- The source rows back, with the device's own, are the whole of its contributions. -/
theorem all_departed (c : Dev nD) :
    iprop(cBlk c c (contribAt m c) ∗ bigSepL allR (sendGot m c))
      ⊢ iprop(holds c cM (contribAt m c) ∗ bigSep Finset.univ fun r : Fin 31 => semVal (sendCell c r) 0) := by
  rw [← listed, holds_blocks]
  have h : bigSep Finset.univ (sendGot m c)
      = iprop((bigSep Finset.univ fun r : Fin 31 => cBlk c (peer c r) (contribAt m c)) ∗ bigSep Finset.univ fun r : Fin 31 => semVal (sendCell c r) 0) := by
    rw [← bigSep_sep']; rfl
  rw [h]
  iintro ⟨H1, H2, H3⟩
  isplitr [H3]
  · isplitl [H1]; · iexact H1
    iexact H2
  iexact H3

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ c ∗ (dats m ρ 0 c).owesAt () t0_0.succ ∗ stg c cc0_stg0_0 (xAt m c) ∗ stg c cc0_stg1_0 (rAt m c) ∗ stg c cc0_stg2_0 (iAt m c)
    ∗ stg c cc0_stg3_0 (eAt m c) ∗ stg c cc0_stg4_0 (sAt m c) ∗ stg c cc0_stg5_0 (outAt m c))

/-- What the second half of the body runs on: the contributions made, the peers' landing rows received, the device's own
    landing rows kept. -/
def midway (K : Dev nD × Role → ℕ) (c : Dev nD) : sProp 𝕄 :=
  iprop(records m K ∗ holds c cM (contribAt m c) ∗ (∃ f, vBlk c c f) ∗ bigSep Finset.univ (barPay c)
    ∗ (bigSep Finset.univ fun r : Fin 31 => dutyTok EX (sendCell c r) 0 0) ∗ (bigSep Finset.univ fun r : Fin 31 => dutyTok EX (recvCell (peer c r) r) 0 0)
    ∗ (bigSep Finset.univ fun r : Fin 31 => cred (tallyAt (recvCell c r) () N))
    ∗ (bigSep Finset.univ fun r : Fin 31 => atPos EX (sendCell c r) 0 ∅ 0)
    ∗ (bigSep Finset.univ fun r : Fin 31 => atPos EX (recvCell c r) 0 ∅ 0)
    ∗ (∃ W, owes (c : Thread nD τ) (owedCopies c allR) W)
    ∗ holds c xM (xAt m c) ∗ holds c sM (sAt m c) ∗ ∃ f, holds c oM f)

def finished (c : Dev nD) : sProp 𝕄 :=
  iprop(holds c cM (contribAt m c) ∗ holds c vM (landedAt m c)
    ∗ (bigSep Finset.univ fun r : Fin 31 => semVal (sendCell c r) 0) ∗ (bigSep Finset.univ fun r : Fin 31 => semVal (recvCell c r) 0)
    ∗ (∃ W, owes (c : Thread nD τ) 0 W)
    ∗ holds c xM (xAt m c) ∗ holds c sM (sAt m c) ∗ holds c oM (outAt m c))

theorem run_exchange (K : Dev nD × Role → ℕ) (c : Dev nD) (Q : PUnit → sProp 𝕄) :
    iprop(midway m K c ∗ (finished m c -∗ Q ⟨⟩)) ⊢ runs c (exchange c) Q := by
  unfold midway exchange
  rw [holds_blocks]
  iintro ⟨⟨#HR, ⟨Hcc, Hcs⟩, ⟨%f0, Hvv⟩, Hbar, Hts, Htr, Hcr, Has, Har, ⟨%W, HO⟩, Hx, Hs, ⟨%f1, Ho⟩⟩, Hk⟩
  iapply (wp_sends m K c _ Q W allR) $$ [Hts Htr Hcs Hbar HO]
  · isplitr; · iexact HR
    isplitl [HO]; · iexact HO
    iapply (gather_sends m c)
    isplitl [Hts]; · iexact Hts
    isplitl [Htr]; · iexact Htr
    isplitl [Hcs]; · iexact Hcs
    iexact Hbar
  iintro ⟨HO, Hsc⟩
  iapply (wp_ownGet c Q _ (contribAt m c)) $$ Hcc
  iintro Hcc
  iapply (wp_ownPeek c Q _ f0) $$ Hvv
  iintro Hvv
  iapply (wp_ownPut m c Q _ f0) $$ Hvv
  iintro Hvv
  iapply (wp_get c xM (xAt m c) (rX4 c) Q _) $$ Hx
  iintro Hx
  iapply (wp_get c sM (sAt m c) rS Q _) $$ Hs
  iintro Hs
  iapply (wp_recvWaits m K c _ Q allR W) $$ [HO Hcr Har]
  · isplitr; · iexact HR
    isplitl [HO]; · iexact HO
    iapply (gather_recvs c)
    isplitl [Hcr]; · iexact Hcr
    iexact Har
  iintro ⟨⟨%W', HO⟩, Hgot⟩
  ihave Hl := (all_landed m c) $$ [Hvv Hgot]
  · isplitl [Hvv]; · iexact Hvv
    iexact Hgot
  icases Hl with ⟨Hv, Hzr⟩
  rw [shared_read]
  ihave Hv' := (Entails.of_eq (holds_v c (landedAt m c)).symm) $$ Hv
  iapply (wp_sumRows m c Q _ allJ (sharedAt m c)) $$ Hv'
  iintro Hv'
  ihave Hv := (Entails.of_eq (holds_v c (landedAt m c))) $$ Hv'
  iapply (wp_get c oM f1 rO Q _) $$ Ho
  iintro Ho
  iapply (wp_put c oM f1 rO Q _ _) $$ Ho
  iintro Ho
  rw [out_written]
  iapply (wp_sendWaits m K c _ Q allR W') $$ [HO Hsc Has]
  · isplitr; · iexact HR
    isplitl [HO]; · iexact HO
    iapply (gather_owns c)
    isplitl [Hsc]; · iexact Hsc
    iexact Has
  iintro ⟨⟨%W'', HO⟩, Hgot⟩
  ihave Hl := (all_departed m c) $$ [Hcc Hgot]
  · isplitl [Hcc]; · iexact Hcc
    iexact Hgot
  icases Hl with ⟨Hc, Hzs⟩
  unfold runs; rw [wp_ret]; imodintro
  iapply Hk
  unfold finished
  isplitl [Hc]; · iexact Hc
  isplitl [Hv]; · iexact Hv
  isplitl [Hzs]; · iexact Hzs
  isplitl [Hzr]; · iexact Hzr
  isplitl [HO]; · (iexists W''; iexact HO)
  isplitl [Hx]; · iexact Hx
  isplitl [Hs]; · iexact Hs
  iexact Ho

set_option maxHeartbeats 800000 in
theorem run_body (K : Dev nD × Role → ℕ) (c : Dev nD) (fx : Buf (Elt F) (oM.view.loc (c : Thread nD τ))) (W : Waits sig Unit) (Q : PUnit → sProp 𝕄) :
    iprop((records m K ∗ linear c) ∗ credits c ∗ levAts L lv ∗ scratch c ∗ owes (c : Thread nD τ) (O₀ c) W
        ∗ holds c xM (xAt m c) ∗ holds c rM (rAt m c) ∗ holds c iM (iAt m c) ∗ holds c eM (eAt m c) ∗ holds c sM (sAt m c) ∗ holds c oM fx
        ∗ ((finished m c ∗ semVal (barCell c) 0 ∗ holds c rM (rAt m c) ∗ holds c iM (iAt m c) ∗ holds c eM (eAt m c)) -∗ Q ⟨⟩))
      ⊢ runs c ordered Q := by
  unfold linear credits scratch ordered
  simp only [wp_deviceId]
  iintro ⟨⟨#HR, Hab, Has, Har, Htb, Hts, Htr⟩, ⟨Hcb, Hcr⟩, #Hlev, ⟨⟨%fc, Hc⟩, ⟨%fv, Hv⟩⟩, HO, Hx, Hr, Hi, He, Hs, Ho, Hk⟩
  ihave Hv' := (Entails.of_eq (lands_blocks c fv)) $$ Hv
  icases Hv' with ⟨Hvv, Hvs⟩
  unfold O₀
  iapply (wp_signals m K c _ Q (owedCopies c allR) W allR) $$ [HO Htb Hvs]
  · isplitr; · iexact HR
    isplitl [HO]; · iexact HO
    iapply (gather_signals c fv)
    isplitl [Htb]; · iexact Htb
    iexact Hvs
  iintro HO
  iapply (wp_get c xM (xAt m c) rX Q _) $$ Hx; iintro Hx
  iapply (wp_get c rM (rAt m c) rR Q _) $$ Hr; iintro Hr
  iapply (wp_get c iM (iAt m c) rI Q _) $$ Hi; iintro Hi
  iapply (wp_get c eM (eAt m c) rE₀ Q _) $$ He; iintro He
  iapply (wp_get c eM (eAt m c) rE₁ Q _) $$ He; iintro He
  iapply (wp_get c cM fc rC Q _) $$ Hc; iintro Hc
  iapply (wp_put c cM fc rC Q _ _) $$ Hc; iintro Hc
  rw [contrib_written]
  iapply (Rounds.wp_wait_rest_token 𝒱₀ EX (sched m) (c : Thread nD τ) none (κ := K (c, .inl ()))
      (wpE_semWait_eq 𝒱₀ (c : Thread nD τ) none Set.univ) (Set.mem_univ _) () (O := owedCopies c allR) (W := W) (R := 0) (m := 0) (T := ∅)
      (by rw [Nat.zero_add, expect_bar])) $$ [Hcb HO Hab]
  · isplitr; · iapply (inv_of m K c (.inl ())); iexact HR
    isplitl [Hcb]; · iexact Hcb
    isplitl [HO]; · iexact HO
    isplitr; · iapply (mayWait_bar c); iexact Hlev
    iexact Hab
  iintro ⟨HO, Hab, -, Hp⟩
  imod (Rounds.cell_close EX (sched m) (Set.mem_univ (K (c, .inl ()))) (fun h => h) (R := 0 + 1) (duties_later m (barCell c))) $$ [Hab] with Hz
  · isplitr; · iapply (inv_of m K c (.inl ())); iexact HR
    iexact Hab
  iapply (run_exchange m K c Q)
  unfold midway
  isplitr [Hk Hz Hr Hi He]
  · isplitr; · iexact HR
    isplitl [Hc]; · iexact Hc
    isplitl [Hvv]; · (iexists fv; iexact Hvv)
    isplitl [Hp]; · (iapply (Entails.of_eq (rest_bar m c)); iexact Hp)
    isplitl [Hts]; · iexact Hts
    isplitl [Htr]; · iexact Htr
    isplitl [Hcr]; · iexact Hcr
    isplitl [Has]; · iexact Has
    isplitl [Har]; · iexact Har
    isplitl [HO]; · (iexists _; iexact HO)
    isplitl [Hx]; · iexact Hx
    isplitl [Hs]; · iexact Hs
    iexists fx; iexact Ho
  · iintro Hf
    iapply Hk
    isplitl [Hf]; · iexact Hf
    isplitl [Hz]; · iexact Hz
    isplitl [Hr]; · iexact Hr
    isplitl [Hi]; · iexact Hi
    iexact He

set_option maxHeartbeats 800000 in
theorem sound_body (c : Dev nD) :
    bodyPre m ρ c ⊢ runs c ordered fun _ => bodyPost m ρ c := by
  unfold bodyPre Φ₀ start
  iintro ⟨⟨⟨⟨%K, HG⟩, Hcr, Hlev⟩, Hscr⟩, Ho, ⟨%d0, %g0, %hg0, H0⟩, ⟨%d1, %g1, %hg1, H1⟩, ⟨%d2, %g2, %hg2, H2⟩, ⟨%d3, %g3, %hg3, H3⟩,
    ⟨%d4, %g4, %hg4, H4⟩, ⟨%d5, %g5, %hg5, H5⟩⟩
  rw [before_x] at hg0
  rw [before_r] at hg1
  rw [before_i] at hg2
  rw [before_e] at hg3
  rw [before_s] at hg4
  subst hg0 hg1 hg2 hg3 hg4
  unfold Dat.owesAt Pipeline.owesWithin
  icases Ho with ⟨%W, %hW, HO⟩
  rw [show (dats m ρ 0 c).owed t0_0.castSucc = O₀ c from rfl]
  iapply (run_body m K c g5 W)
  isplitl [HG]; · iexact HG
  isplitl [Hcr]; · iexact Hcr
  isplitl [Hlev]; · iexact Hlev
  isplitl [Hscr]; · iexact Hscr
  isplitl [HO]; · iexact HO
  isplitl [H0]; · (iapply (Entails.of_eq (holds_x c _)); iexact H0)
  isplitl [H1]; · (iapply (Entails.of_eq (holds_r c _)); iexact H1)
  isplitl [H2]; · (iapply (Entails.of_eq (holds_i c _)); iexact H2)
  isplitl [H3]; · (iapply (Entails.of_eq (holds_e c _)); iexact H3)
  isplitl [H4]; · (iapply (Entails.of_eq (holds_s c _)); iexact H4)
  isplitl [H5]; · (iapply (Entails.of_eq (holds_o c _)); iexact H5)
  unfold finished bodyPost Φ₁ scratch Dat.owesAt Pipeline.owesWithin
  rw [show (dats m ρ 0 c).owed t0_0.succ = 0 from rfl]
  iintro ⟨⟨Hc, Hv, Hzs, Hzr, ⟨%W', HO⟩, Hx, Hs, Ho⟩, Hz, Hr, Hi, He⟩
  isplitl [Hc Hv Hzs Hzr Hz]
  · isplitl [Hc Hv]
    · isplitl [Hc]; · (iexists _; iexact Hc)
      iexists _; iexact Hv
    isplitl [Hzs]; · iexact Hzs
    isplitl [Hzr]; · iexact Hzr
    iexact Hz
  isplitl [HO]
  · iexists W'
    isplitr; · ipureintro; exact fun _ _ => Or.inl trivial
    iexact HO
  isplitl [Hx]; · (iexists _; isplitr; · (ipureintro; rfl)); (iapply (Entails.of_eq (holds_x c _).symm); iexact Hx)
  isplitl [Hr]; · (iexists _; isplitr; · (ipureintro; rfl)); (iapply (Entails.of_eq (holds_r c _).symm); iexact Hr)
  isplitl [Hi]; · (iexists _; isplitr; · (ipureintro; rfl)); (iapply (Entails.of_eq (holds_i c _).symm); iexact Hi)
  isplitl [He]; · (iexists _; isplitr; · (ipureintro; rfl)); (iapply (Entails.of_eq (holds_e c _).symm); iexact He)
  isplitl [Hs]; · (iexists _; isplitr; · (ipureintro; rfl)); (iapply (Entails.of_eq (holds_s c _).symm); iexact Hs)
  iexists _; isplitr; · (ipureintro; rfl)
  iapply (Entails.of_eq (holds_o c _).symm); iexact Ho

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 65536 in
/-- The body obligation of the launch, on device `c`. -/
theorem body_obligation (c : Dev nD) : BodyObligation (dats (F := F) m ρ 0 c) (defs₀ (F := F)) 𝒱₀ () Set.univ := fun t => by
  rw [fin_N0 t, bigSep_W0, bigSep_W0]
  simp only [owns_whole_eq]
  show bodyPre m ρ c ⊢ runs c (cc0_body xM (Memref.isWhole_whole _) rM (Memref.isWhole_whole _) iM (Memref.isWhole_whole _) eM (Memref.isWhole_whole _)
    sM (Memref.isWhole_whole _) oM (Memref.isWhole_whole _) cM (Memref.isWhole_whole _) vM (Memref.isWhole_whole _) cc0_scratch2 cc0_scratch3)
    fun _ => bodyPost m ρ c
  rw [body_order]
  exact sound_body m ρ c

end Cert.Moe

end
-- ==== Proof.Launch.lean ====
/-
  The launch: the protocol's rights dealt to the devices, the credit each can count on, and the run of the whole
  program.
-/
module

public import proofs.«01_k».proof.Proof.Body
public import Idealize.ShloMosaic.Lib.Pipeline.CollectiveSegs

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the rights -/

theorem cellAt_injective : Function.Injective fun x : Dev nD × Role => cellAt x.1 x.2 := by
  rintro ⟨c, k⟩ ⟨c', k'⟩ h
  have h1 : c = c' := congrArg (fun g : GSem nD τ sig => g.1.1) h
  have h2 : k = k' := roleSem_inj (congrArg Prod.snd h)
  rw [h1, h2]

def exCells : Finset (GSem nD τ sig) := Finset.univ.map ⟨fun x : Dev nD × Role => cellAt x.1 x.2, cellAt_injective⟩

/-- A device's rights as made: the thirty-one names of its barrier, one at each of its other semaphores. -/
abbrev Right : Type := Fin 31 ⊕ Own
abbrev rightOf (x : Dev nD × Right) : GSem nD τ sig × ℕ × Fin 31 := match x.2 with
  | .inl d => (barCell x.1, 0, d)
  | .inr k => (cellAt x.1 (.inr k), 0, 0)

theorem rightOf_injective : Function.Injective rightOf := by
  rintro ⟨c, k⟩ ⟨c', k'⟩ h
  have hc : cellAt c (k.elim (fun _ => .inl ()) .inr) = cellAt c' (k'.elim (fun _ => .inl ()) .inr) := by
    have := congrArg Prod.fst h
    rcases k with d | k <;> rcases k' with d' | k' <;> exact this
  have hx := cellAt_injective (a₁ := (c, _)) (a₂ := (c', _)) hc
  have h1 : c = c' := congrArg Prod.fst hx
  have h2 := congrArg Prod.snd hx
  subst h1
  rcases k with d | k <;> rcases k' with d' | k'
  · have : d = d' := congrArg (fun y : GSem nD τ sig × ℕ × Fin 31 => y.2.2) h
    rw [this]
  · exact absurd h2 (by intro h; cases h)
  · exact absurd h2 (by intro h; cases h)
  · rw [Sum.inr.inj h2]

def exRights : Finset (GSem nD τ sig × ℕ × Fin 31) := Finset.univ.map ⟨rightOf, rightOf_injective⟩

def u₀ : UU := (initOf (Pipeline.cells cfgs cellOf_inj) (Pipeline.launchToks cfgs cellOf_inj), initOf exCells exRights)

/-- The rights at device `c`'s own semaphores. -/
def toks (c : Dev nD) : sProp 𝕄 :=
  iprop((bigSep Finset.univ fun d : Fin 31 => dutyTok EX (barCell c) 0 d) ∗ (bigSep Finset.univ fun r : Fin 31 => dutyTok EX (sendCell c r) 0 0)
    ∗ bigSep Finset.univ fun r : Fin 31 => dutyTok EX (recvCell c r) 0 0)

def G (c : Dev nD) : sProp 𝕄 :=
  iprop((bigSep Finset.univ fun k : Role => roundState EX (sched m) (cellAt c k) 0)
    ∗ (bigSep Finset.univ fun k : Role => iprop(atPos EX (cellAt c k) 0 ∅ 0 ∗ reached EX (cellAt c k) 0)) ∗ toks c)

def G' (c : Dev nD) : sProp 𝕄 := iprop(∃ K, records m K ∗ linear c)

theorem fund_exchange : BI.own (EX (initOf exCells exRights)) ⊢ (|==> bigSep Finset.univ (G m) : sProp 𝕄) := by
  have hX (Φ : GSem nD τ sig → sProp 𝕄) : bigSep exCells Φ = bigSep Finset.univ fun c : Dev nD => bigSep Finset.univ fun k : Role => Φ (cellAt c k) := by
    unfold exCells; rw [bigSep_map, bigSep_univ_prod]; rfl
  have hT : bigSep exRights (fun x => (dutyTok EX x.1 x.2.1 x.2.2 : sProp 𝕄)) = bigSep Finset.univ fun c : Dev nD => toks c := by
    unfold exRights; rw [bigSep_map, bigSep_univ_prod]
    exact bigSep_congr fun c _ => by unfold toks; rw [bigSep_univ_sum, bigSep_univ_sum]; rfl
  iintro HX
  imod (Rounds.fund EX (sched m) exCells exRights) $$ HX with ⟨Hst, Hr, Hat, Htok⟩
  imodintro
  ihave Hst' := (Entails.of_eq (hX fun g => roundState EX (sched m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- Over a device's semaphores: the barrier's, the senders', the receivers'. -/
theorem over_roles (Φ : Role → sProp 𝕄) :
    bigSep Finset.univ Φ = iprop(Φ (.inl ()) ∗ (bigSep Finset.univ fun r : Fin 31 => Φ (.inr (.inl r))) ∗ bigSep Finset.univ fun r : Fin 31 => Φ (.inr (.inr r))) := by
  rw [bigSep_univ_sum, bigSep_univ_sum, bigSep_univ_of_subsingleton ()]; rfl

theorem ownSems0_eq (c : Dev nD) : (Pipeline.ownSems0 (Ix := Unit) (Name := ℕ) (U := UU) (Lvl := ℕ) (Val := Elt F) (τ := τ) ownSem c : sProp 𝕄)
    = iprop((bigSep Finset.univ fun r : Fin 31 => semVal (sendCell c r) 0) ∗ bigSep Finset.univ fun r : Fin 31 => semVal (recvCell c r) 0) := by
  unfold Pipeline.ownSems0; rw [bigSep_univ_sum]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) ownSem c ∗ unscopedSems0 c ∗ G m c)
      ⊢ |={Set.univ}=> iprop((bigSep Finset.univ fun k => iprop(∃ κ : ℕ, cellInv EX (sched m) κ (cellAt c k)))
          ∗ (bigSep Finset.univ fun k : Role => iprop(atPos EX (cellAt c k) 0 ∅ 0 ∗ reached EX (cellAt c k) 0)) ∗ toks c) := by
  unfold G
  rw [ownSems0_eq, unscopedSems0_eq]
  iintro ⟨⟨Hs, Hr⟩, Hb, Hst, Hat, Htok⟩
  ihave Hv := (Entails.of_eq (over_roles (F := F) fun k => semVal (cellAt c k) 0).symm) $$ [Hs Hr Hb]
  · isplitl [Hb]; · iexact Hb
    isplitl [Hs] <;> iassumption
  imod (show iprop((bigSep Finset.univ fun k : Role => semVal (cellAt c k) 0) ∗ bigSep Finset.univ fun k : Role => roundState EX (sched m) (cellAt c k) 0)
      ⊢ (|={Set.univ}=> bigSep Finset.univ fun k => iprop(∃ κ : ℕ, cellInv EX (sched m) κ (cellAt c k)) : sProp 𝕄) from by
        rw [← bigSep_sep']
        exact (bigSep_mono fun k _ => (Rounds.body_intro EX (sched m) (cellAt c k)).trans inv_alloc).trans (bigSep_fupd _ _)) $$ [Hv Hst] with Hinv
  · isplitl [Hv] <;> iassumption
  imodintro
  isplitl [Hinv]; · iexact Hinv
  isplitl [Hat]; · iexact Hat
  iexact Htok

/-- Summed over all devices and steps, a family at each device's own is the family at its peers. -/
theorem dealt (Φ : Dev nD → Fin 31 → sProp 𝕄) :
    (bigSep Finset.univ fun c : Dev nD => bigSep Finset.univ fun r : Fin 31 => Φ c r)
      = bigSep Finset.univ fun c : Dev nD => bigSep Finset.univ fun r : Fin 31 => Φ (peer c r) r := by
  rw [bigSep_univ_comm, bigSep_univ_comm (fun (c : Dev nD) (r : Fin 31) => Φ (peer c r) r)]
  exact bigSep_congr fun r _ => bigSep_univ_equiv (turn r) fun c : Dev nD => Φ c r

theorem own_linear :
    iprop((bigSep Finset.univ fun c : Dev nD => bigSep Finset.univ fun k : Role => atPos EX (cellAt c k) 0 ∅ 0) ∗ bigSep Finset.univ fun c : Dev nD => toks c)
      ⊢ (bigSep Finset.univ fun c : Dev nD => linear c : sProp 𝕄) := by
  unfold linear toks
  simp only [over_roles, bigSep_sep']
  rw [dealt fun (c : Dev nD) (r : Fin 31) => (dutyTok EX (recvCell c r) 0 0 : sProp 𝕄),
    bigSep_congr (s := Finset.univ) (fun (c : Dev nD) _ => bigSep_univ_equiv Fin.revPerm fun d : Fin 31 => (dutyTok EX (barCell c) 0 d : sProp 𝕄)),
    dealt fun (c : Dev nD) (r : Fin 31) => (dutyTok EX (barCell c) 0 (Fin.revPerm r) : sProp 𝕄)]
  iintro ⟨⟨H1, H2, H3⟩, H4, H5, H6⟩
  isplitl [H1]; · iexact H1
  isplitl [H2]; · iexact H2
  isplitl [H3]; · iexact H3
  isplitl [H4]; · iexact H4
  isplitl [H5]; · iexact H5
  iexact H6

theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv EX (sched m) κ (cellAt c k)))
          ∗ (bigSep Finset.univ fun k : Role => iprop(atPos EX (cellAt c k) 0 ∅ 0 ∗ reached EX (cellAt c k) 0)) ∗ toks c) : sProp 𝕄)
      ⊢ bigSep Finset.univ (G' m) := by
  have intro_one : ∀ (K : Dev nD × Role → ℕ) (c : Dev nD), iprop(records m K ∗ linear c) ⊢ G' m c := fun K c => by
    unfold G'
    iintro H; iexists K; iexact H
  rw [bigSep_sep', bigSep_sep', ← bigSep_univ_prod (fun x : Dev nD × Role => iprop(∃ κ : ℕ, cellInv EX (sched m) κ (cellAt x.1 x.2))),
    bigSep_congr (s := Finset.univ) (fun (c : Dev nD) _ => bigSep_sep' Finset.univ (fun k : Role => (atPos EX (cellAt c k) 0 ∅ 0 : sProp 𝕄)) (fun k => reached EX (cellAt c k) 0)),
    bigSep_sep', ← bigSep_univ_prod (fun x : Dev nD × Role => (reached EX (cellAt x.1 x.2) 0 : sProp 𝕄))]
  iintro ⟨HI, ⟨Hat, #HR⟩, Htok⟩
  ihave HK := (BI.bigSep_exists_pi Finset.univ (fun (x : Dev nD × Role) (κ : ℕ) => (cellInv EX (sched m) κ (cellAt x.1 x.2) : sProp 𝕄))) $$ HI
  icases HK with ⟨%K, #HI⟩
  iapply (each_with (R := records m K) fun c _ => intro_one K c)
  isplitr
  · unfold records; isplitl; · iexact HI
    iexact HR
  · iapply (own_linear (F := F))
    isplitl [Hat]; · iexact Hat
    iexact Htok

theorem glob : (bigSep Finset.univ fun c => iprop(Pipeline.ownSems0 (Ix := Unit) (Name := ℕ) (U := UU) (Lvl := ℕ) (Val := Elt F) (τ := τ) ownSem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at the launch -/

theorem allR_sum {β : Type} [AddCommMonoid β] (f : Fin 31 → β) : (allR.map f).sum = ∑ r, f r := by
  rw [Fin.sum_univ_def]; rfl

theorem owedCopies_at (c : Dev nD) (g : GSem nD τ sig) : owedCopies c allR g () = ∑ r, tallyAt (recvCell (peer c r) r) () N g () := by
  unfold owedCopies; rw [allR_sum, Finset.sum_apply, Finsupp.finset_sum_apply]
theorem owedSignals_at (c : Dev nD) (g : GSem nD τ sig) : owedSignals c allR g () = ∑ r, tallyAt (barCell (peer c r)) () 1 g () := by
  unfold owedSignals; rw [allR_sum, Finset.sum_apply, Finsupp.finset_sum_apply]

theorem bar_ne_recv (c d : Dev nD) (r : Fin 31) : barCell c ≠ recvCell d r := fun h => by
  have := congrArg Prod.snd h; cases this

theorem bar_eq {a b : Dev nD} (h : barCell a = barCell b) : a = b := congrArg (fun g : GSem nD τ sig => g.1.1) h
theorem recv_eq {a b : Dev nD} {r r' : Fin 31} (h : recvCell a r = recvCell b r') : a = b ∧ r = r' := by
  have := cellAt_injective (a₁ := (a, .inr (.inr r))) (a₂ := (b, .inr (.inr r'))) h
  exact ⟨congrArg Prod.fst this, Sum.inr.inj (Sum.inr.inj (congrArg Prod.snd this))⟩

theorem total_bar (c : Dev nD) : ∑ d, O₀ d (barCell c) () = 31 := by
  have h0 : ∀ d, O₀ d (barCell c) () = ∑ r, tallyAt (barCell (peer d r)) () 1 (barCell c) () := fun d => by
    have hz : owedCopies d allR (barCell c) () = 0 := Nat.eq_zero_of_not_pos fun h => by
      obtain ⟨r, hr⟩ := owedCopies_pos h; exact bar_ne_recv _ _ _ hr
    unfold O₀; rw [Pi.add_apply, Finsupp.add_apply, hz, Nat.zero_add, owedSignals_at]
  have h1 : ∀ r : Fin 31, ∑ d, tallyAt (barCell (peer d r)) () 1 (barCell c) () = 1 := fun r => by
    refine (Equiv.sum_comp (turn r) fun d : Dev nD => (tallyAt (barCell d) () 1 : CellTallies nD τ sig Unit) (barCell c) ()).trans ?_
    rw [Finset.sum_eq_single c (fun d _ hd => by rw [tallyAt_apply, if_neg (fun h => hd (bar_eq h.1).symm)]) (fun h => absurd (Finset.mem_univ _) h),
      tallyAt_apply, if_pos ⟨rfl, rfl⟩]
  rw [Finset.sum_congr rfl fun d _ => h0 d, Finset.sum_comm, Finset.sum_congr rfl fun r _ => h1 r, Finset.sum_const, Finset.card_univ, Fintype.card_fin,
    smul_eq_mul]

theorem total_recv (c : Dev nD) (r : Fin 31) : ∑ d, O₀ d (recvCell c r) () = N := by
  have h0 : ∀ d, O₀ d (recvCell c r) () = ∑ r', tallyAt (recvCell (peer d r') r') () N (recvCell c r) () := fun d => by
    have hz : owedSignals d allR (recvCell c r) () = 0 := Nat.eq_zero_of_not_pos fun h => by
      obtain ⟨r', hr⟩ := owedSignals_pos h; exact bar_ne_recv _ _ _ hr.symm
    unfold O₀; rw [Pi.add_apply, Finsupp.add_apply, hz, Nat.add_zero, owedCopies_at]
  have h1 : ∀ r' : Fin 31, ∑ d, tallyAt (recvCell (peer d r') r') () N (recvCell c r) () = if r' = r then N else 0 := fun r' => by
    refine (Equiv.sum_comp (turn r') fun d : Dev nD => (tallyAt (recvCell d r') () N : CellTallies nD τ sig Unit) (recvCell c r) ()).trans ?_
    rw [Finset.sum_eq_single c (fun d _ hd => by rw [tallyAt_apply, if_neg (fun h => hd (recv_eq h.1).1.symm)]) (fun h => absurd (Finset.mem_univ _) h),
      tallyAt_apply]
    by_cases h : r' = r
    · subst h; rw [if_pos ⟨rfl, rfl⟩, if_pos rfl]
    · rw [if_neg (fun h' => h (recv_eq h'.1).2.symm), if_neg h]
  rw [Finset.sum_congr rfl fun d _ => h0 d, Finset.sum_comm, Finset.sum_congr rfl fun r' _ => h1 r', Finset.sum_ite_eq' Finset.univ r fun _ => N,
    if_pos (Finset.mem_univ _)]

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, total_bar]
theorem launch_recv (c : Dev nD) (r : Fin 31) :
    tallyOn (recvCell c r) (launchCredit (Pipeline.owing O₀) 0 (recvCell c r)) = (tallyAt (recvCell c r) () N : CellTallies nD τ sig Unit) := by
  unfold tallyAt; refine congrArg _ (Finsupp.ext fun u => ?_); cases u
  rw [Pipeline.launchCredit_owing, Finsupp.single_eq_same, total_recv]

def recvLocs : Fin 31 ↪ SemLoc sig := ⟨fun r => .dma (recvS r), fun a b h => Sum.inr.inj (Sum.inr.inj (roleSem_inj (a₁ := .inr (.inr a)) (a₂ := .inr (.inr b)) h))⟩

theorem creds (c : Dev nD) : (Pipeline.launchCred O₀ c : sProp 𝕄) ⊢ credits c := by
  unfold Pipeline.launchCred credits
  rw [bigSep_univ_at _ (SemLoc.reg barS), launch_bar]
  have h : (bigSep Finset.univ fun r : Fin 31 => (cred (tallyAt (recvCell c r) () N) : sProp 𝕄))
      = bigSep (Finset.univ.map recvLocs) fun s => cred (tallyOn ((c : Thread nD τ), s) (launchCredit (Pipeline.owing O₀) 0 ((c : Thread nD τ), s))) := by
    rw [bigSep_map]; exact bigSep_congr fun r _ => congrArg _ (launch_recv c r).symm
  rw [h]
  refine sep_mono_right (bigSep_subset fun s hs => ?_)
  obtain ⟨r, -, rfl⟩ := Finset.mem_map.mp hs
  exact Finset.mem_erase.mpr ⟨fun h => (by cases h), Finset.mem_univ _⟩

/-! ## The side conditions -/

theorem ownSemFacts : Pipeline.OwnSemFacts cfg0.spec ownSem where
  isScoped := by decide
  inj := ownSem_inj
  disj := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem scratch_eq (c : Dev nD) : (scratch c : sProp 𝕄) = Pipeline.scopedRest cfg0.spec c := by
  rw [scopedRest0_eq]; rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ← scratch_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = Φ₁ c from rfl, ← scratch_eq, ownSems0_eq, unscopedSems0_eq]
  unfold Φ₁
  iintro ⟨Hr, HzS, HzV, HzB⟩
  isplitl [HzB]; · iexact HzB
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_staging c _ (by fin_cases w <;> fin_cases s <;> decide) _ (by
      rcases t with ⟨_ | _, ht⟩
      · exact Or.inl rfl
      · exact Or.inr rfl)

/-! ## The run -/

/-- A window's array at the end of the run. -/
def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with zero counters every fair run of the program on its thirty-two devices terminates, each array at
    its final contents and every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_off) (hwaits := waits m ρ)
    (G := G m) (G' := G' m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe

end
-- ==== Proof.Frames.lean ====
/-
  What the run leaves in the arrays of the program's arguments, and the three frames.
-/
module

public import proofs.«01_k».proof.Defs
public import proofs.«01_k».proof.Proof.Gen.Kernel
public import proofs.«01_k».proof.Proof.Gen.ReferenceIdeal.Run
public import proofs.«01_k».proof.Proof.Launch
public import Idealize.ShloMosaic.Lib.Pipeline.ValueKit.Geometry

@[expose] public section

noncomputable section

namespace Cert.Moe

open Cert.KernelIdeal Cert.KernelIdeal.Gen
open Idealize.ShloMosaic Idealize.SL.Sem
open Idealize.ShloMosaic.TcCoe

variable {F : FTy → Type} [FloatOps F]
variable (m : (ℓ : Loc nD τ sig) → Buf (Elt F) ℓ) (ρ : Dev nD → PrngReg)

/-- The array of an argument ends as it began. -/
theorem finalA_in (c : Dev nD) (w : Fin cfg0.W) (h : (cfg0.win w).isOut = false) :
    finalA m ρ c w = m ((cfg0.win w).arr.view.loc (c : Thread nD τ)) :=
  (dats m ρ 0 c).arrAt_in w h _

/-- The five argument arrays of every device, as a run leaves them. -/
theorem args_kept (r : PUnit × MemSt nD τ sig (Elt F)) (h : Ends m ρ r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  ⟨(h c 0).trans (finalA_in m ρ c 0 rfl), (h c 1).trans (finalA_in m ρ c 1 rfl), (h c 2).trans (finalA_in m ρ c 2 rfl),
    (h c 3).trans (finalA_in m ρ c 3 rfl), (h c 4).trans (finalA_in m ρ c 4 rfl)⟩

/-- The result array of a device ends holding the sum that its body stored. -/
theorem result_is (r : PUnit × MemSt nD τ sig (Elt F)) (h : Ends m ρ r) (c : Dev nD) :
    r.2.mem ((c : Thread nD τ).loc main_v1) = outAt m c := by
  refine (h c 5).trans ?_
  refine (dats m ρ 0 c).arrAt_eq_of_after_last 5 t0_0 (by decide +kernel) _ fun j => ?_
  rfl

/-- The kernel over the extended reals: it terminates, keeps its arguments and ends at rest. -/
theorem frame_kernelIdeal : Cert.quiescent_KernelIdeal := fun m ρ _ =>
  (θ_run defs _ _).mono (fun r h => ⟨args_kept m ρ r h.1, h.2⟩) (run_main (F := Ideal) m ρ)

set_option maxRecDepth 65536 in
/-- The kernel as written and the kernel read over the extended reals are one text: the same body for their one label, -/
theorem bodies_same : Cert.Kernel.defs₀ (F := F) = defs₀ (F := F) := by
  unfold Cert.Kernel.defs₀ defs₀
  refine congrArg Defs.onTc ?_
  funext l a
  match l, a with
  | 0, (t, s) => rfl

/-- and so the same table of bodies, pipelines included. -/
theorem tables_same : Cert.Kernel.defs (F := F) = defs (F := F) := congrArg (Pipeline.defs pcfgs) bodies_same

/-- The kernel as written: the same run, the floats opaque. -/
theorem frame_kernel : Cert.quiescent_Kernel := by
  intro m ρ _
  have h := (θ_run (defs (F := Bits)) (onTc (τ := τ) (main (F := Bits))) (s₀ m ρ)).mono
    (fun r h => (⟨args_kept m ρ r h.1, h.2⟩ : (∀ c : Dev nD, _) ∧ r.2.sem = fun _ => 0)) (run_main (F := Bits) m ρ)
  rw [← tables_same] at h
  exact h

/-- The reference: it terminates and keeps its arguments; it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Moe

end
-- ==== Proof.Shares.lean ====
/-
  The kernel over the extended reals, one element at a time: what a device contributes to a token, and the sum of
  the thirty-two contributions beside the shared product.
-/
module

public import proofs.«01_k».proof.Proof.Frames
public import Idealize.ShloMosaic.Lib.Pointwise
public import Idealize.ShloMosaic.Lib.WordCmp

@[expose] public section

noncomputable section

namespace Cert.Moe

open Cert.KernelIdeal Cert.KernelIdeal.Gen
open Idealize.ShloMosaic Idealize.SL.Sem
open Idealize.ShloMosaic.TcCoe

/-- The first of a device's two expert numbers, as the kernel computes it; -/
theorem first_word : ∀ c : Dev nD, Scalar.addi (Scalar.muli (placeWord c) 2#32) 0#32 = BitVec.ofNat 32 (2 * c.val) := by
  decide +kernel
/-- and the second. -/
theorem second_word : ∀ c : Dev nD, Scalar.addi (Scalar.muli (placeWord c) 2#32) 1#32 = BitVec.ofNat 32 (2 * c.val + 1) := by
  decide +kernel

/-- What one expert gives a token of index `b`, row of shares `P` and product `y`: the share times the product if
    the index names the expert, and zero otherwise. -/
def given (P : Fin 64 → EReal) (b : BitVec 32) (e : ℕ) (y : EReal) : EReal :=
  if h : e < 64 then if b.toNat = e then P ⟨e, h⟩ * y else 0 else 0

/-- The kernel picks an expert's share out of a row by adding up the row with every other share struck out. -/
theorem picked (P : Fin 64 → EReal) (b : BitVec 32) (e : ℕ) (h : e < 64) (y : EReal) :
    Scalar.select (IntOp.cmpi .eq b (BitVec.ofNat 32 e))
      ((∑ k : Fin 64, Scalar.select (IntOp.cmpi .eq (BitVec.ofNat 32 k.val) (BitVec.ofNat 32 e)) (P k) 0) * y) 0
    = given P b e y := by
  have hs : (∑ k : Fin 64, Scalar.select (IntOp.cmpi .eq (BitVec.ofNat 32 k.val) (BitVec.ofNat 32 e)) (P k) 0) = P ⟨e, h⟩ := by
    rw [Finset.sum_eq_single (⟨e, h⟩ : Fin 64)]
    · show Scalar.select (IntOp.cmpi .eq (BitVec.ofNat 32 e) (BitVec.ofNat 32 e)) _ _ = _
      simp [IntOp.cmpi, Scalar.select]
    · intro k _ hk
      have hne : BitVec.ofNat 32 k.val ≠ BitVec.ofNat 32 e := fun hh => hk (Fin.ext (by
        have hv := congrArg BitVec.toNat hh
        simp only [BitVec.toNat_ofNat] at hv
        have hk' := k.isLt
        show k.val = e
        omega))
      simp [IntOp.cmpi, Scalar.select, beq_eq_false_iff_ne.mpr hne]
    · exact fun hn => absurd (Finset.mem_univ _) hn
  rw [hs]
  unfold given
  rw [dif_pos h]
  by_cases hb : b.toNat = e
  · have : b = BitVec.ofNat 32 e := by subst hb; simp
    rw [if_pos hb, this]
    simp [IntOp.cmpi, Scalar.select]
  · have : b ≠ BitVec.ofNat 32 e := fun hh => hb (by rw [hh]; simp only [BitVec.toNat_ofNat]; omega)
    rw [if_neg hb]
    simp [IntOp.cmpi, Scalar.select, beq_eq_false_iff_ne.mpr this]

/-- One element of a device's contributions. -/
theorem contribOf_at (c : Dev nD) (x : FVec Ideal S512x256 .bf16) (rt : FVec Ideal S256x64 .bf16) (ix : IVec S512x1 32)
    (e₀ e₁ : FVec Ideal S1x256x512 .bf16) (t o : Fin 512) :
    contribOf (F := Ideal) c x rt ix e₀ e₁ (ix2 t o)
      = given (fun k => k0_pay2 (F := Ideal) x rt (ix2 t k)) (ix (ix2 t 0)) (2 * c.val) (∑ k, x (ix2 t k) * e₀ (ix3 0 k o))
      + given (fun k => k0_pay2 (F := Ideal) x rt (ix2 t k)) (ix (ix2 t 0)) (2 * c.val + 1) (∑ k, x (ix2 t k) * e₁ (ix3 0 k o)) := by
  have hc : c.val < 32 := c.isLt
  rw [← picked _ _ _ (by omega : 2 * c.val < 64), ← picked _ _ _ (by omega : 2 * c.val + 1 < 64), ← first_word, ← second_word]
  unfold contribOf
  generalize k0_pay2 (F := Ideal) x rt = P
  unfold k0_pay8 k0_pay6 k0_pay5 k0_pay4 k0_pay3 k0_pay1 k0_pay7
  pointwise

variable (m : (ℓ : Loc nD τ sig) → Buf (Elt Ideal) ℓ)

/-! ## The arguments of a device -/

abbrev tokensIn (c : Dev nD) : FVec Ideal S512x256 .bf16 := m ((c : Thread nD τ).loc main_arg0)
abbrev routerIn (c : Dev nD) : FVec Ideal S256x64 .bf16 := m ((c : Thread nD τ).loc main_arg1)
abbrev indexIn (c : Dev nD) : IVec S512x1 32 := m ((c : Thread nD τ).loc main_arg2)
abbrev expertsIn (c : Dev nD) : FVec Ideal S2x256x512 .bf16 := m ((c : Thread nD τ).loc main_arg3)
abbrev sharedIn (c : Dev nD) : FVec Ideal S256x512 .bf16 := m ((c : Thread nD τ).loc main_arg4)

/-! ## What the staged arrays hold -/

theorem xAt_eq (c : Dev nD) : xAt m c = tokensIn m c := by
  funext i
  refine congrArg (tokensIn m c) (funext fun a => Fin.ext ?_)
  match a with
  | ⟨0, h⟩ => show 0 + 1 * (i ⟨0, h⟩).val = (i ⟨0, h⟩).val; omega
  | ⟨1, h⟩ => show 0 + 1 * (i ⟨1, h⟩).val = (i ⟨1, h⟩).val; omega
theorem rAt_eq (c : Dev nD) : rAt m c = routerIn m c := by
  funext i
  refine congrArg (routerIn m c) (funext fun a => Fin.ext ?_)
  match a with
  | ⟨0, h⟩ => show 0 + 1 * (i ⟨0, h⟩).val = (i ⟨0, h⟩).val; omega
  | ⟨1, h⟩ => show 0 + 1 * (i ⟨1, h⟩).val = (i ⟨1, h⟩).val; omega
theorem iAt_eq (c : Dev nD) : iAt m c = indexIn m c := by
  funext i
  refine congrArg (indexIn m c) (funext fun a => Fin.ext ?_)
  match a with
  | ⟨0, h⟩ => show 0 + 1 * (i ⟨0, h⟩).val = (i ⟨0, h⟩).val; omega
  | ⟨1, h⟩ => show 0 + 1 * (i ⟨1, h⟩).val = (i ⟨1, h⟩).val; omega
theorem eAt_eq (c : Dev nD) : eAt m c = expertsIn m c := by
  funext i
  refine congrArg (expertsIn m c) (funext fun a => Fin.ext ?_)
  match a with
  | ⟨0, h⟩ => show 0 + 1 * (i ⟨0, h⟩).val = (i ⟨0, h⟩).val; omega
  | ⟨1, h⟩ => show 0 + 1 * (i ⟨1, h⟩).val = (i ⟨1, h⟩).val; omega
  | ⟨2, h⟩ => show 0 + 1 * (i ⟨2, h⟩).val = (i ⟨2, h⟩).val; omega
theorem sAt_eq (c : Dev nD) : sAt m c = sharedIn m c := by
  funext i
  refine congrArg (sharedIn m c) (funext fun a => Fin.ext ?_)
  match a with
  | ⟨0, h⟩ => show 0 + 1 * (i ⟨0, h⟩).val = (i ⟨0, h⟩).val; omega
  | ⟨1, h⟩ => show 0 + 1 * (i ⟨1, h⟩).val = (i ⟨1, h⟩).val; omega

/-- The two expert matrices as the body reads them. -/
theorem expert_first (f : FVec Ideal S2x256x512 .bf16) (k : Fin 256) (o : Fin 512) :
    (View.slice (View.whole cc0_stg3_0) rE₀).read (Elt Ideal) f (ix3 0 k o) = f (ix3 0 k o) := by
  refine congrArg f (funext fun a => Fin.ext ?_)
  match a with
  | ⟨0, _⟩ => rfl
  | ⟨1, _⟩ => show 0 + 1 * k.val = k.val; omega
  | ⟨2, _⟩ => show 0 + 1 * o.val = o.val; omega
theorem expert_second (f : FVec Ideal S2x256x512 .bf16) (k : Fin 256) (o : Fin 512) :
    (View.slice (View.whole cc0_stg3_0) rE₁).read (Elt Ideal) f (ix3 0 k o) = f (ix3 1 k o) := by
  refine congrArg f (funext fun a => Fin.ext ?_)
  match a with
  | ⟨0, _⟩ => rfl
  | ⟨1, _⟩ => show 0 + 1 * k.val = k.val; omega
  | ⟨2, _⟩ => show 0 + 1 * o.val = o.val; omega

/-- The token that a device's output row is for. -/
def token (c : Dev nD) (r : Fin 16) : Fin 512 :=
  ⟨16 * c.val + r.val, by have hc : c.val < 32 := c.isLt; have := r.isLt; omega⟩

/-- What device `j` gives a token, from its two experts. -/
def share (j : Dev nD) (t o : Fin 512) : EReal :=
  given (fun k => k0_pay2 (F := Ideal) (tokensIn m j) (routerIn m j) (ix2 t k))
      (indexIn m j (ix2 t 0)) (2 * j.val)
      (∑ k : Fin 256, tokensIn m j (ix2 t k) * expertsIn m j (ix3 0 k o))
  + given (fun k => k0_pay2 (F := Ideal) (tokensIn m j) (routerIn m j) (ix2 t k))
      (indexIn m j (ix2 t 0)) (2 * j.val + 1)
      (∑ k : Fin 256, tokensIn m j (ix2 t k) * expertsIn m j (ix3 1 k o))

theorem contribAt_at (j : Dev nD) (t o : Fin 512) : contribAt m j (ix2 t o) = share m j t o := by
  unfold contribAt share
  rw [contribOf_at, xAt_eq, rAt_eq, iAt_eq, eAt_eq]
  simp only [expert_first, expert_second]

/-- One element of a block as loaded. -/
theorem rowsAt_at (c : Dev nD) (j : Fin 32) (r : Fin 16) (o : Fin 512) : rowsAt m c j (ix2 r o) = share m j (token c r) o := by
  rw [← contribAt_at]
  have hr := r.isLt
  refine congr (congrArg (contribAt m) (Fin.ext ?_)) (funext fun a => Fin.ext ?_)
  · show (16 * j.val + 1 * r.val) / 16 = j.val
    omega
  match a with
  | ⟨0, _⟩ => show 16 * c.val + (16 * j.val + 1 * r.val) % 16 = 16 * c.val + r.val; omega
  | ⟨1, _⟩ => show 0 + 1 * o.val = o.val; omega

/-- One element of the shared product. -/
theorem sharedAt_at (c : Dev nD) (r : Fin 16) (o : Fin 512) :
    sharedAt m c (ix2 r o) = ∑ k : Fin 256, tokensIn m c (ix2 (token c r) k) * sharedIn m c (ix2 k o) := by
  unfold sharedAt
  rw [xAt_eq, sAt_eq]
  have hx : ∀ k : Fin 256, (View.slice (View.whole cc0_stg0_0) (Rect.unit (s := S512x256) (k0_off4 c) S16x256.size (k0_off4_inb c))).read (Elt Ideal)
      (tokensIn m c) (ix2 r k) = tokensIn m c (ix2 (token c r) k) := by
    intro k
    refine congrArg (tokensIn m c) (funext fun a => Fin.ext ?_)
    match a with
    | ⟨0, h⟩ =>
      show k0_off4 c ⟨0, h⟩ + 1 * r.val = 16 * c.val + r.val
      rw [k0_off4_eq]
      show 16 * c.val + 1 * r.val = 16 * c.val + r.val
      omega
    | ⟨1, h⟩ =>
      show k0_off4 c ⟨1, h⟩ + 1 * k.val = k.val
      rw [k0_off4_eq]
      show 0 + 1 * k.val = k.val
      omega
  simp only [← hx]
  generalize (View.slice (View.whole cc0_stg0_0) (Rect.unit (s := S512x256) (k0_off4 c) S16x256.size (k0_off4_inb c))).read (Elt Ideal)
      (tokensIn m c) = y
  unfold k0_pay10
  pointwise

/-- A running sum of blocks, element by element. -/
theorem fold_at (f : Fin 32 → Vec Ideal S16x512 .bf16) (i : S16x512.Idx) : ∀ (l : List (Fin 32)) (a : FVec Ideal S16x512 .f32),
    (l.foldl (fun acc j => accum acc (f j)) a) i = a i + (l.map fun j => f j i).sum
  | [], a => (add_zero (a i)).symm
  | j :: l, a => by
    rw [List.foldl_cons, fold_at f i l, List.map_cons, List.sum_cons, ← add_assoc]
    rfl

theorem allJ_eq : allJ = List.finRange 32 := by decide

/-- One element of the kernel's result: the shared product and what the thirty-two devices give. -/
theorem outAt_at (c : Dev nD) (r : Fin 16) (o : Fin 512) :
    outAt m c (ix2 r o)
      = (∑ k : Fin 256, tokensIn m c (ix2 (token c r) k) * sharedIn m c (ix2 k o))
        + ∑ j : Dev nD, share m j (token c r) o := by
  refine (fold_at (rowsAt m c) (ix2 r o) allJ (sharedAt m c)).trans ?_
  rw [sharedAt_at]
  simp only [rowsAt_at]
  rw [allJ_eq, Fin.sum_univ_def]
  rfl

end Cert.Moe
-- ==== Proof.Reference.lean ====
/-
  The reference over the extended reals, one element at a time: the shared product, and beside it the product of a
  token with the one expert its index names, scaled by that expert's share.
-/
module

public import proofs.«01_k».proof.Proof.Gen.ReferenceIdeal.Run
public import Idealize.ShloMosaic.Lib.Pointwise
public import Idealize.ShloMosaic.Lib.WordCmp

@[expose] public section

noncomputable section

namespace Cert.Moe

open Cert.ReferenceIdeal Cert.ReferenceIdeal.Gen
open Idealize.ShloMosaic Idealize.SL.Sem
open Idealize.ShloMosaic.TcCoe

section
variable (x : FVec Ideal S512x256 .bf16) (rt : FVec Ideal S256x64 .bf16) (ix : IVec S512x1 32)
variable (ex : FVec Ideal S64x256x512 .bf16) (sw : FVec Ideal S256x512 .bf16)

/-- The exponentials of a token's scores, each score less the largest of its row. -/
def refExps : FVec Ideal S512x64 .f32 :=
  Host.exp (subf (Host.dotGeneral dot_S512x256_S256x64_S512x64_1_0_0_1_n_n none x rt)
    (broadcastInDim S512x64 ![0, 1] bcast_S512x1_S512x64_0_1 (broadcastInDim S512x1 ![0] bcast_S512_S512x1_0
      (Host.reduce FloatOps.maximumf (Host.dotGeneral dot_S512x256_S256x64_S512x64_1_0_0_1_n_n none x rt)
        (constant S_ .f32 0xFF800000#32) reducesTo_S512x64_S512_d1 h_S_))))

/-- The shares of the sixty-four experts, token by token. -/
def refProbs : FVec Ideal S512x64 .f32 :=
  Host.divf (refExps x rt) (broadcastInDim S512x64 ![0, 1] bcast_S512x1_S512x64_0_1
    (broadcastInDim S512x1 ![0] bcast_S512_S512x1_0
      (Host.reduceAdd (refExps x rt) (constant S_ .f32 0x00000000#32) reducesTo_S512x64_S512_d1 h_S_)))

/-- Where a token's share is looked up: its index, moved up by sixty-four when negative. -/
def refPlaces : IVec S512x1x1 32 :=
  shapeCast S512x1x1 (select (cmpi .slt ix (broadcastInDim S512x1 ![] bcast_S_S512x1 (constantI S_ 32 0#32)))
    (addi ix (broadcastInDim S512x1 ![] bcast_S_S512x1 (constantI S_ 32 64#32))) ix) shapeCasts_S512x1_S512x1x1

/-- A token's share of the expert its index names, and zero when the index names none. -/
def refShare : FVec Ideal S512x1 .f32 :=
  select (andi (cmpi .sge ix (broadcastInDim S512x1 ![] bcast_S_S512x1 (constantI S_ 32 0#32)))
      (cmpi .slt ix (broadcastInDim S512x1 ![] bcast_S_S512x1 (constantI S_ 32 64#32))))
    (Host.gather gather_S512x64_S512x1x1_S512x1_n_1_0_0_1_2_11 (refProbs x rt) (refPlaces ix))
    (broadcastInDim S512x1 ![] bcast_S_S512x1 (id (constant S_ .f32 0x00000000#32)))

/-- The matrix of the expert each token's index names. -/
def refExperts : FVec Ideal S512x256x512 .bf16 :=
  Host.gather gather_S64x256x512_S512x1_S512x256x512_12_0_n_n_0_1_1256512 ex
    (broadcastInDim S512x1 ![0] bcast_S512_S512x1_0 (shapeCast S512 ix shapeCasts_S512x1_S512))

/-- The reference's result. -/
def refOut : FVec Ideal S512x512 .f32 :=
  addf (Host.dotGeneral dot_S512x256_S256x512_S512x512_1_0_0_1_n_n none x sw)
    (mulf (broadcastInDim S512x512 ![0, 1] bcast_S512x1_S512x512_0_1 (refShare x rt ix))
      (Host.dotGeneral dot_S512x256_S512x256x512_S512x512_1_1_n_2_0_0 none x (refExperts ix ex)))

theorem refOut_at (t o : Fin 512) :
    refOut x rt ix ex sw (ix2 t o)
      = (∑ k, x (ix2 t k) * sw (ix2 k o)) + refShare x rt ix (ix2 t 0) * ∑ k, x (ix2 t k) * refExperts ix ex (ix3 t k o) := by
  unfold refOut
  generalize refShare x rt ix = g
  generalize refExperts ix ex = e
  pointwise

/-- A word below sixty-four read as a signed number is that number. -/
theorem toInt_small (b : BitVec 32) (h : b.toNat < 64) : b.toInt.toNat = b.toNat := by
  rw [BitVec.toInt_eq_toNat_of_lt (by omega)]
  rfl

/-- A look-up in the matrices goes to the matrix numbered by the word at its token, no further than the last. -/
theorem gather_matrix (p : IVec S512x1 32) (t : Fin 512) (k : Fin 256) (o : Fin 512) (h : (p (ix2 t 0)).toNat < 64) :
    Host.gather gather_S64x256x512_S512x1_S512x256x512_12_0_n_n_0_1_1256512 ex p (ix3 t k o)
      = ex (ix3 ⟨(p (ix2 t 0)).toNat, h⟩ k o) := by
  unfold Host.gather
  refine congrArg ex (funext fun a => Fin.ext ?_)
  show GatherDims.start _ _ _ a + GatherDims.batchCoord _ _ a + GatherDims.offCoord _ _ a = _
  match a with
  | ⟨0, _⟩ =>
    have hw : GatherDims.siIdx gather_S64x256x512_S512x1_S512x256x512_12_0_n_n_0_1_1256512 (ix3 t k o)
        ⟨List.idxOf (0 : Fin 3) [0], by decide⟩ = ix2 t 0 := by
      funext b
      match b with
      | ⟨0, _⟩ => rfl
      | ⟨1, _⟩ => rfl
    have hs : GatherDims.start gather_S64x256x512_S512x1_S512x256x512_12_0_n_n_0_1_1256512 (ix3 t k o) p (0 : Fin 3)
        = min (p (ix2 t 0)).toInt.toNat 63 := by
      rw [← hw]
      rfl
    have hb : GatherDims.batchCoord gather_S64x256x512_S512x1_S512x256x512_12_0_n_n_0_1_1256512 (ix3 t k o) (0 : Fin 3) = 0 := rfl
    have ho : GatherDims.offCoord gather_S64x256x512_S512x1_S512x256x512_12_0_n_n_0_1_1256512 (ix3 t k o) (0 : Fin 3) = 0 := rfl
    refine (congrArg₂ (· + ·) (congrArg₂ (· + ·) hs hb) ho).trans ?_
    rw [toInt_small _ h]
    show min _ 63 + 0 + 0 = (p (ix2 t 0)).toNat
    omega
  | ⟨1, _⟩ =>
    have hs : GatherDims.start gather_S64x256x512_S512x1_S512x256x512_12_0_n_n_0_1_1256512 (ix3 t k o) p (1 : Fin 3) = 0 := rfl
    have hb : GatherDims.batchCoord gather_S64x256x512_S512x1_S512x256x512_12_0_n_n_0_1_1256512 (ix3 t k o) (1 : Fin 3) = 0 := rfl
    have ho : GatherDims.offCoord gather_S64x256x512_S512x1_S512x256x512_12_0_n_n_0_1_1256512 (ix3 t k o) (1 : Fin 3) = k.val := rfl
    refine (congrArg₂ (· + ·) (congrArg₂ (· + ·) hs hb) ho).trans ?_
    show 0 + 0 + k.val = k.val
    omega
  | ⟨2, _⟩ =>
    have hs : GatherDims.start gather_S64x256x512_S512x1_S512x256x512_12_0_n_n_0_1_1256512 (ix3 t k o) p (2 : Fin 3) = 0 := rfl
    have hb : GatherDims.batchCoord gather_S64x256x512_S512x1_S512x256x512_12_0_n_n_0_1_1256512 (ix3 t k o) (2 : Fin 3) = 0 := rfl
    have ho : GatherDims.offCoord gather_S64x256x512_S512x1_S512x256x512_12_0_n_n_0_1_1256512 (ix3 t k o) (2 : Fin 3) = o.val := rfl
    refine (congrArg₂ (· + ·) (congrArg₂ (· + ·) hs hb) ho).trans ?_
    show 0 + 0 + o.val = o.val
    omega

/-- A look-up in the shares goes, in its own row, to the column numbered by its word, no further than the last. -/
theorem gather_share (P : FVec Ideal S512x64 .f32) (p : IVec S512x1x1 32) (t : Fin 512) (h : (p (ix3 t 0 0)).toNat < 64) :
    Host.gather gather_S512x64_S512x1x1_S512x1_n_1_0_0_1_2_11 P p (ix2 t 0) = P (ix2 t ⟨(p (ix3 t 0 0)).toNat, h⟩) := by
  unfold Host.gather
  refine congrArg P (funext fun a => Fin.ext ?_)
  show GatherDims.start _ _ _ a + GatherDims.batchCoord _ _ a + GatherDims.offCoord _ _ a = _
  match a with
  | ⟨0, _⟩ =>
    have hs : GatherDims.start gather_S512x64_S512x1x1_S512x1_n_1_0_0_1_2_11 (ix2 t 0) p (0 : Fin 2) = 0 := rfl
    have hb : GatherDims.batchCoord gather_S512x64_S512x1x1_S512x1_n_1_0_0_1_2_11 (ix2 t 0) (0 : Fin 2) = t.val := rfl
    have ho : GatherDims.offCoord gather_S512x64_S512x1x1_S512x1_n_1_0_0_1_2_11 (ix2 t 0) (0 : Fin 2) = 0 := rfl
    refine (congrArg₂ (· + ·) (congrArg₂ (· + ·) hs hb) ho).trans ?_
    show 0 + t.val + 0 = t.val
    omega
  | ⟨1, _⟩ =>
    have hw : GatherDims.siIdx gather_S512x64_S512x1x1_S512x1_n_1_0_0_1_2_11 (ix2 t 0)
        ⟨List.idxOf (1 : Fin 2) [1], by decide⟩ = ix3 t 0 0 := by
      funext b
      match b with
      | ⟨0, _⟩ => rfl
      | ⟨1, _⟩ => rfl
      | ⟨2, _⟩ => rfl
    have hs : GatherDims.start gather_S512x64_S512x1x1_S512x1_n_1_0_0_1_2_11 (ix2 t 0) p (1 : Fin 2)
        = min (p (ix3 t 0 0)).toInt.toNat 63 := by
      rw [← hw]
      rfl
    have hb : GatherDims.batchCoord gather_S512x64_S512x1x1_S512x1_n_1_0_0_1_2_11 (ix2 t 0) (1 : Fin 2) = 0 := rfl
    have ho : GatherDims.offCoord gather_S512x64_S512x1x1_S512x1_n_1_0_0_1_2_11 (ix2 t 0) (1 : Fin 2) = 0 := rfl
    refine (congrArg₂ (· + ·) (congrArg₂ (· + ·) hs hb) ho).trans ?_
    rw [toInt_small _ h]
    show min _ 63 + 0 + 0 = (p (ix3 t 0 0)).toNat
    omega

/-- The matrix read for a token whose index names an expert. -/
theorem refExperts_at (t : Fin 512) (k : Fin 256) (o : Fin 512) (h : (ix (ix2 t 0)).toNat < 64) :
    refExperts ix ex (ix3 t k o) = ex (ix3 ⟨(ix (ix2 t 0)).toNat, h⟩ k o) := by
  unfold refExperts
  have hi : broadcastInDim S512x1 ![0] bcast_S512_S512x1_0 (shapeCast S512 ix shapeCasts_S512x1_S512) (ix2 t 0) = ix (ix2 t 0) := by
    pointwise
  rw [gather_matrix ex _ t k o (by rw [hi]; exact h)]
  exact congrArg ex (congrArg (fun e => ix3 e k o) (Fin.ext (congrArg BitVec.toNat hi)))

/-- The two comparisons made of a token's index hold together when, and only when, it is below sixty-four as it stands. -/
theorem named_iff (b : BitVec 32) :
    IntOp.andi (IntOp.cmpi .sge b 0#32) (IntOp.cmpi .slt b 64#32) = if b.toNat < 64 then 1#1 else 0#1 := by
  rw [show (64#32 : BitVec 32) = BitVec.ofNat 32 64 from rfl, WordCmp.andi_sge_zero_slt_ofNat (by norm_num) b]
  by_cases h : b.toNat < 64 <;> simp [h]

/-- A token whose index names no expert has no share. -/
theorem refShare_out (t : Fin 512) (h : ¬ (ix (ix2 t 0)).toNat < 64) : refShare x rt ix (ix2 t 0) = 0 := by
  unfold refShare
  generalize Host.gather gather_S512x64_S512x1x1_S512x1_n_1_0_0_1_2_11 (refProbs x rt) (refPlaces ix) = g
  pointwise
  rw [named_iff, if_neg h]
  exact Ideal.ofBits_zero_f32

/-- The share of the expert that a token's index names. -/
theorem refShare_in (t : Fin 512) (h : (ix (ix2 t 0)).toNat < 64) :
    refShare x rt ix (ix2 t 0) = refProbs x rt (ix2 t ⟨(ix (ix2 t 0)).toNat, h⟩) := by
  have hi : refPlaces ix (ix3 t 0 0) = ix (ix2 t 0) := by
    unfold refPlaces
    pointwise
    rw [WordCmp.cmpi_slt_zero, decide_eq_false (by norm_num; omega)]
    rfl
  have hg := gather_share (refProbs x rt) (refPlaces ix) t (by rw [hi]; exact h)
  unfold refShare
  generalize Host.gather gather_S512x64_S512x1x1_S512x1_n_1_0_0_1_2_11 (refProbs x rt) (refPlaces ix) = g at hg
  pointwise
  rw [named_iff, if_pos h]
  refine hg.trans ?_
  exact congrArg (refProbs x rt) (congrArg (fun e => ix2 t e) (Fin.ext (congrArg BitVec.toNat hi)))

end

/-- Every run of the reference ends with its result in place, its arguments as they were. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = refOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => h c) (Cert.ReferenceIdeal.Value.run m ρ)

end Cert.Moe
-- ==== Proof.Value.lean ====
/-
  The kernel's result is the reference's: thirty-two devices each give a token something from two experts, and the
  one expert that the token's index names gives what the reference adds.
-/
module

public import proofs.«01_k».proof.Defs
public import proofs.«01_k».proof.Proof.Shares
public import proofs.«01_k».proof.Proof.Reference
public import Idealize.ShloMosaic.Lib.KernelVsHost
public import Idealize.ShloMosaic.Lib.Layout

@[expose] public section

noncomputable section

namespace Cert.Moe

open Cert.KernelIdeal Cert.KernelIdeal.Gen
open Idealize.ShloMosaic Idealize.SL.Sem
open Idealize.ShloMosaic.TcCoe

/-! ## The shares of the experts -/

/-- A column laid along every row, in the kernel's spelling and the reference's. -/
theorem column_same (v : FVec Ideal S512 .f32) :
    broadcastTo S512x64 (shapeCast S512x1 v shapeCasts_S512_S512x1) broadcasts_S512x1_S512x64
      = broadcastInDim S512x64 ![0, 1] Cert.ReferenceIdeal.Gen.bcast_S512x1_S512x64_0_1
          (broadcastInDim S512x1 ![0] Cert.ReferenceIdeal.Gen.bcast_S512_S512x1_0 v) := by
  funext i
  pointwise

/-- The largest of each row, in both spellings; -/
theorem largest_same (v : FVec Ideal S512x64 .f32) :
    multiReduction .maximumf [1] S512 v 0xFF800000#32 reduces_S512x64_S512 (.inl rfl) rfl
      = Host.reduce FloatOps.maximumf v (constant Cert.ReferenceIdeal.S_ .f32 0xFF800000#32)
          Cert.ReferenceIdeal.Gen.reducesTo_S512x64_S512_d1 Cert.ReferenceIdeal.Gen.h_S_ :=
  (hostReduce_maximumf_eq_multiReduction _ _ _ _ _ _ _).symm

/-- and the total of each row. -/
theorem total_same (v : FVec Ideal S512x64 .f32) :
    multiReduction .add [1] S512 v 0x00000000#32 reduces_S512x64_S512 (.inl rfl) rfl
      = Host.reduceAdd v (constant Cert.ReferenceIdeal.S_ .f32 0x00000000#32)
          Cert.ReferenceIdeal.Gen.reducesTo_S512x64_S512_d1 Cert.ReferenceIdeal.Gen.h_S_ :=
  multiReduction_add_eq_hostReduceAdd _ _ _ _ _ _ _ _ Ideal.ofBits_zero_f32

/-- The kernel's shares are the reference's. -/
theorem shares_same (x : FVec Ideal S512x256 .bf16) (rt : FVec Ideal S256x64 .bf16) : k0_pay2 (F := Ideal) x rt = refProbs x rt := by
  unfold k0_pay2 k0_pay1 refProbs refExps
  dsimp only
  rw [shapeCast_self, shapeCast_self, matmul_zero_eq_dotGeneral, column_same, column_same,
    largest_same, total_same]
  rfl

/-! ## Only the named expert gives -/

theorem given_zero (P : Fin 64 → EReal) (b : BitVec 32) (e : ℕ) (y : EReal) (h : b.toNat ≠ e) : given P b e y = 0 := by
  unfold given
  simp only [if_neg h, dite_eq_ite, ite_self]

theorem given_named (P : Fin 64 → EReal) (b : BitVec 32) (h : b.toNat < 64) (y : EReal) : given P b b.toNat y = P ⟨b.toNat, h⟩ * y := by
  unfold given
  rw [dif_pos h, if_pos rfl]

/-- Two experts to a device, all sixty-four numbered in order: together they give what the named one gives. -/
theorem total_named (P : Fin 64 → EReal) (b : BitVec 32) (y : Fin 64 → EReal) (y₀ y₁ : Dev nD → EReal)
    (h₀ : ∀ j : Dev nD, ∀ h, y₀ j = y ⟨2 * j.val, h⟩) (h₁ : ∀ j : Dev nD, ∀ h, y₁ j = y ⟨2 * j.val + 1, h⟩) (hb : b.toNat < 64) :
    ∑ j : Dev nD, (given P b (2 * j.val) (y₀ j) + given P b (2 * j.val + 1) (y₁ j)) = P ⟨b.toNat, hb⟩ * y ⟨b.toNat, hb⟩ := by
  have hj : b.toNat / 2 < nD := by show _ < 32; omega
  rw [Finset.sum_eq_single (⟨b.toNat / 2, hj⟩ : Dev nD)]
  · rcases Nat.mod_two_eq_zero_or_one b.toNat with hp | hp
    · have e : 2 * (b.toNat / 2) = b.toNat := by omega
      rw [given_zero P b (2 * (b.toNat / 2) + 1) _ (by omega), add_zero, h₀ _ (by show 2 * (b.toNat / 2) < 64; omega)]
      show given P b (2 * (b.toNat / 2)) (y ⟨2 * (b.toNat / 2), _⟩) = _
      simp only [e]
      exact given_named P b hb _
    · have e : 2 * (b.toNat / 2) + 1 = b.toNat := by omega
      rw [given_zero P b (2 * (b.toNat / 2)) _ (by omega), zero_add, h₁ _ (by show 2 * (b.toNat / 2) + 1 < 64; omega)]
      show given P b (2 * (b.toNat / 2) + 1) (y ⟨2 * (b.toNat / 2) + 1, _⟩) = _
      simp only [e]
      exact given_named P b hb _
  · intro j _ hne
    have hv : j.val ≠ b.toNat / 2 := fun hh => hne (Fin.ext hh)
    rw [given_zero _ _ _ _ (by omega), given_zero _ _ _ _ (by omega), add_zero]
  · exact fun hn => absurd (Finset.mem_univ _) hn

theorem total_none (P : Fin 64 → EReal) (b : BitVec 32) (y₀ y₁ : Dev nD → EReal) (hb : ¬ b.toNat < 64) :
    ∑ j : Dev nD, (given P b (2 * j.val) (y₀ j) + given P b (2 * j.val + 1) (y₁ j)) = 0 := by
  refine Finset.sum_eq_zero fun j _ => ?_
  have hj : j.val < 32 := j.isLt
  rw [given_zero _ _ _ _ (by omega), given_zero _ _ _ _ (by omega), add_zero]

/-! ## The two results -/

/-- The kernel's result on a device is its block of the reference's. -/
theorem result_same (m : (ℓ : Loc nD τ sig) → Buf (Elt Ideal) ℓ) (x : FVec Ideal S512x256 .bf16) (rt : FVec Ideal S256x64 .bf16)
    (ix : IVec S512x1 32) (ex : FVec Ideal Cert.ReferenceIdeal.S64x256x512 .bf16) (sw : FVec Ideal S256x512 .bf16)
    (hx : ∀ c, tokensIn m c = x) (hr : ∀ c, routerIn m c = rt) (hi : ∀ c, indexIn m c = ix)
    (he : ∀ c, expertsIn m c = Layout.block ⟨3, ![2, 256, 512]⟩ ⟨3, ![64, 256, 512]⟩ 0 32 c ex) (hs : ∀ c, sharedIn m c = sw) (c : Dev nD) :
    outAt m c = Layout.block ⟨2, ![16, 512]⟩ ⟨2, ![512, 512]⟩ 0 32 c (refOut x rt ix ex sw) := by
  funext i
  obtain ⟨r, o, rfl⟩ : ∃ (r : Fin 16) (o : Fin 512), i = ix2 r o := ⟨i 0, i 1, eq_ix2 i⟩
  have hplace : Layout.block ⟨2, ![16, 512]⟩ ⟨2, ![512, 512]⟩ 0 32 c (refOut x rt ix ex sw) (by decide) (ix2 r o) = refOut x rt ix ex sw (ix2 (token c r) o) := by
    refine congrArg (refOut x rt ix ex sw) (funext fun a => Fin.ext ?_)
    match a with
    | ⟨0, _⟩ => show c.val * 16 + r.val = 16 * c.val + r.val; omega
    | ⟨1, _⟩ => rfl
  have hfirst : ∀ (j : Dev nD) (k : Fin 256) (h), expertsIn m j (ix3 0 k o) = ex (ix3 ⟨2 * j.val, h⟩ k o) := fun j k h => by
    rw [he]
    refine congrArg ex (funext fun a => Fin.ext ?_)
    match a with
    | ⟨0, _⟩ => show j.val * 2 + 0 = 2 * j.val; omega
    | ⟨1, _⟩ => rfl
    | ⟨2, _⟩ => rfl
  have hsecond : ∀ (j : Dev nD) (k : Fin 256) (h), expertsIn m j (ix3 1 k o) = ex (ix3 ⟨2 * j.val + 1, h⟩ k o) := fun j k h => by
    rw [he]
    refine congrArg ex (funext fun a => Fin.ext ?_)
    match a with
    | ⟨0, _⟩ => show j.val * 2 + 1 = 2 * j.val + 1; omega
    | ⟨1, _⟩ => rfl
    | ⟨2, _⟩ => rfl
  rw [hplace]
  refine (outAt_at m c r o).trans ?_
  rw [refOut_at, hx, hs]
  refine congrArg (_ + ·) ?_
  unfold share
  simp only [hx, hr, hi, shares_same]
  by_cases hb : (ix (ix2 (token c r) 0)).toNat < 64
  · rw [refShare_in _ _ _ _ hb]
    simp only [refExperts_at _ _ _ _ _ hb]
    exact total_named (fun k => refProbs x rt (ix2 (token c r) k)) _ (fun e => ∑ k, x (ix2 (token c r) k) * ex (ix3 e k o)) _ _
      (fun j h => Finset.sum_congr rfl fun k _ => by rw [hfirst j k h])
      (fun j h => Finset.sum_congr rfl fun k _ => by rw [hsecond j k h]) hb
  · rw [refShare_out _ _ _ _ hb, zero_mul]
    exact total_none _ _ _ _ hb

/-- Over the extended reals the kernel computes the reference: each device its sixteen rows. -/
theorem kernel_reference : Cert.algebraic_KernelIdeal_ReferenceIdeal := by
  intro m g m' g' _ h
  refine ⟨_, (θ_run defs _ _).mono (fun r hr c => ⟨(result_is m g r hr.1 c).trans ?_, args_kept m g r hr.1 c⟩) (run_main (F := Ideal) m g),
    (θ_run Cert.ReferenceIdeal.defs _ _).mono (fun r hr => hr 0) (run_reference m' g')⟩
  exact result_same m _ _ _ _ _ (fun c => (h c).1) (fun c => (h c).2.1) (fun c => (h c).2.2.1) (fun c => (h c).2.2.2.1)
    (fun c => (h c).2.2.2.2) c

end Cert.Moe
-- ==== Proof.lean ====
/- The five claims together: the frames of the kernel, of the kernel over the extended reals and of the reference,
   the idealization, and the equation of the two results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Moe.frame_kernel, Cert.Moe.frame_kernelIdeal, Cert.Moe.frame_reference, trivial, Cert.Moe.kernel_reference⟩

end Cert.Proof

end
